-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![768, 6144]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![384, 768]⟩ ⟨2, ![6144, 768]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![48, 768]⟩ ⟨2, ![768, 768]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S48x768 : Shape := ⟨2, ![48, 768]⟩
abbrev S768x768 : Shape := ⟨2, ![768, 768]⟩
abbrev S3x48x768 : Shape := ⟨3, ![3, 48, 768]⟩
abbrev S3x4x48x768 : Shape := ⟨4, ![3, 4, 48, 768]⟩
abbrev S3x4 : Shape := ⟨2, ![3, 4]⟩
abbrev S3 : Shape := ⟨1, ![3]⟩
abbrev S_ : Shape := ⟨0, ![]⟩
abbrev S192x384 : Shape := ⟨2, ![192, 384]⟩
abbrev S192x768 : Shape := ⟨2, ![192, 768]⟩
abbrev S1x1 : Shape := ⟨2, ![1, 1]⟩
abbrev S1x1x48x768 : Shape := ⟨4, ![1, 1, 48, 768]⟩
abbrev S1x48x768 : Shape := ⟨3, ![1, 48, 768]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S768x384, .bf16⟩
  | .hbm, ⟨1, _⟩ => ⟨S384x768, .bf16⟩
  | .hbm, ⟨2, _⟩ => ⟨S48x768, .f32⟩
  | .local _ .vmem, ⟨0, _⟩ => ⟨S768x384, .bf16⟩
  | .local _ .vmem, ⟨1, _⟩ => ⟨S384x768, .bf16⟩
  | .local _ .vmem, ⟨2, _⟩ => ⟨S48x768, .f32⟩
  | .local _ .vmem, ⟨3, _⟩ => ⟨S768x768, .bf16⟩
  | .local _ .vmem, ⟨4, _⟩ => ⟨S3x48x768, .bf16⟩
  | .local _ .vmem, ⟨5, _⟩ => ⟨S3x4x48x768, .bf16⟩
  | .local _ .vmem, ⟨6, _⟩ => ⟨S3x48x768, .bf16⟩
  | _, _ => ⟨S768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v23 : BitVec 32 := Scalar.addi v3 c1_i32_6
  let c4_i32_7 : BitVec 32 := 4#32
  let v24 : BitVec 32 := Scalar.remsi v23 c4_i32_7
  let v25 : BitVec 32 := Scalar.addi v21 v24
  let c1_i32_9 : BitVec 32 := 1#32
  let v26 : BitVec 32 := Scalar.muli v25 c1_i32_9
  let v27 : BitVec 32 := Scalar.addi c0_i32_10 v26
  v27.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v28 : BitVec 32 := Scalar.addi v2 c4_i32_11
  let c16_i32_12 : BitVec 32 := 16#32
  let v29 : BitVec 32 := Scalar.remsi v28 c16_i32_12
  let c1_i32_14 : BitVec 32 := 1#32
  let v30 : BitVec 32 := Scalar.muli v29 c1_i32_14
  let v31 : BitVec 32 := Scalar.addi c0_i32_15 v30
  v31.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c2_i32 : BitVec 32 := 2#32
  let v32 : BitVec 32 := Scalar.addi v3 c2_i32
  let c4_i32_16 : BitVec 32 := 4#32
  let v33 : BitVec 32 := Scalar.remsi v32 c4_i32_16
  let v34 : BitVec 32 := Scalar.addi v21 v33
  let c1_i32_18 : BitVec 32 := 1#32
  let v35 : BitVec 32 := Scalar.muli v34 c1_i32_18
  let v36 : BitVec 32 := Scalar.addi c0_i32_19 v35
  v36.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v37 : BitVec 32 := Scalar.addi v2 c8_i32
  let c16_i32_20 : BitVec 32 := 16#32
  let v38 : BitVec 32 := Scalar.remsi v37 c16_i32_20
  let c1_i32_22 : BitVec 32 := 1#32
  let v39 : BitVec 32 := Scalar.muli v38 c1_i32_22
  let v40 : BitVec 32 := Scalar.addi c0_i32_23 v39
  v40.toNat
def k0_dev5 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v41 : BitVec 32 := Scalar.addi v3 c3_i32
  let c4_i32_24 : BitVec 32 := 4#32
  let v42 : BitVec 32 := Scalar.remsi v41 c4_i32_24
  let v43 : BitVec 32 := Scalar.addi v21 v42
  let c1_i32_26 : BitVec 32 := 1#32
  let v44 : BitVec 32 := Scalar.muli v43 c1_i32_26
  let v45 : BitVec 32 := Scalar.addi c0_i32_27 v44
  v45.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v46 : BitVec 32 := Scalar.addi v2 c12_i32
  let c16_i32_28 : BitVec 32 := 16#32
  let v47 : BitVec 32 := Scalar.remsi v46 c16_i32_28
  let c1_i32_30 : BitVec 32 := 1#32
  let v48 : BitVec 32 := Scalar.muli v47 c1_i32_30
  let v49 : BitVec 32 := Scalar.addi c0_i32_31 v48
  v49.toNat
def k0_off1 (d0 : Dev nD) (c0_i32_34 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_33 : BitVec 32 := 1#32
  let v52 : BitVec 32 := Scalar.addi v20 c1_i32_33
  let v53 : BitVec 32 := Scalar.addi v52 c0_i32_34
  let c4_i32_35 : BitVec 32 := 4#32
  let v54 : BitVec 32 := Scalar.remsi v53 c4_i32_35
  let c192_i32 : BitVec 32 := 192#32
  let v55 : BitVec 32 := Scalar.muli v54 c192_i32
  let v56 : Index := Scalar.indexCast v55
  let c0_36 : Index := 0#32
  ![v56.toNat, 0]
def k0_off2 (d0 : Dev nD) (c0_i32_34 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_33 : BitVec 32 := 1#32
  let v52 : BitVec 32 := Scalar.addi v20 c1_i32_33
  let v53 : BitVec 32 := Scalar.addi v52 c0_i32_34
  let c4_i32_35 : BitVec 32 := 4#32
  let v54 : BitVec 32 := Scalar.remsi v53 c4_i32_35
  let c192_i32_37 : BitVec 32 := 192#32
  let v61 : BitVec 32 := Scalar.muli v54 c192_i32_37
  let v62 : Index := Scalar.indexCast v61
  let c0_38 : Index := 0#32
  ![v62.toNat, 0]
def k0_off3 (d0 : Dev nD) (c0_i32_34 : BitVec 32) (c0_i32_40 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_33 : BitVec 32 := 1#32
  let v52 : BitVec 32 := Scalar.addi v20 c1_i32_33
  let v53 : BitVec 32 := Scalar.addi v52 c0_i32_34
  let c4_i32_35 : BitVec 32 := 4#32
  let v54 : BitVec 32 := Scalar.remsi v53 c4_i32_35
  let c4_i32_42 : BitVec 32 := 4#32
  let v69 : BitVec 32 := Scalar.muli v54 c4_i32_42
  let c4_i32 : BitVec 32 := 4#32
  let v3 : BitVec 32 := Scalar.remsi v2 c4_i32
  let c1_i32_39 : BitVec 32 := 1#32
  let v66 : BitVec 32 := Scalar.addi v3 c1_i32_39
  let v67 : BitVec 32 := Scalar.addi v66 c0_i32_40
  let c4_i32_41 : BitVec 32 := 4#32
  let v68 : BitVec 32 := Scalar.remsi v67 c4_i32_41
  let v70 : BitVec 32 := Scalar.addi v69 v68
  let c48_i32 : BitVec 32 := 48#32
  let v71 : BitVec 32 := Scalar.muli v70 c48_i32
  let c0_i32_53 : BitVec 32 := 0#32
  ![v71.toNat, 0]
def k0_dev7 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_39 : BitVec 32 := 1#32
  let v66 : BitVec 32 := Scalar.addi v3 c1_i32_39
  let c0_i32_40 : BitVec 32 := 0#32
  let v67 : BitVec 32 := Scalar.addi v66 c0_i32_40
  let c4_i32_41 : BitVec 32 := 4#32
  let v68 : BitVec 32 := Scalar.remsi v67 c4_i32_41
  let v72 : BitVec 32 := Scalar.addi v21 v68
  let c1_i32_49 : BitVec 32 := 1#32
  let v73 : BitVec 32 := Scalar.muli v72 c1_i32_49
  let v74 : BitVec 32 := Scalar.addi c0_i32_50 v73
  v74.toNat
def k0_dev8 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_54 : BitVec 32 := 1#32
  let v82 : BitVec 32 := Scalar.addi v3 c1_i32_54
  let c1_i32_55 : BitVec 32 := 1#32
  let v83 : BitVec 32 := Scalar.addi v82 c1_i32_55
  let c4_i32_56 : BitVec 32 := 4#32
  let v84 : BitVec 32 := Scalar.remsi v83 c4_i32_56
  let v88 : BitVec 32 := Scalar.addi v21 v84
  let c1_i32_65 : BitVec 32 := 1#32
  let v89 : BitVec 32 := Scalar.muli v88 c1_i32_65
  let v90 : BitVec 32 := Scalar.addi c0_i32_66 v89
  v90.toNat
def k0_dev9 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_70 : BitVec 32 := 1#32
  let v98 : BitVec 32 := Scalar.addi v3 c1_i32_70
  let c2_i32_71 : BitVec 32 := 2#32
  let v99 : BitVec 32 := Scalar.addi v98 c2_i32_71
  let c4_i32_72 : BitVec 32 := 4#32
  let v100 : BitVec 32 := Scalar.remsi v99 c4_i32_72
  let v104 : BitVec 32 := Scalar.addi v21 v100
  let c1_i32_81 : BitVec 32 := 1#32
  let v105 : BitVec 32 := Scalar.muli v104 c1_i32_81
  let v106 : BitVec 32 := Scalar.addi c0_i32_82 v105
  v106.toNat
def k0_dev10 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_94 : BitVec 32 := 1#32
  let v128 : BitVec 32 := Scalar.addi v3 c1_i32_94
  let c0_i32_95 : BitVec 32 := 0#32
  let v129 : BitVec 32 := Scalar.addi v128 c0_i32_95
  let c4_i32_96 : BitVec 32 := 4#32
  let v130 : BitVec 32 := Scalar.remsi v129 c4_i32_96
  let v134 : BitVec 32 := Scalar.addi v21 v130
  let c1_i32_105 : BitVec 32 := 1#32
  let v135 : BitVec 32 := Scalar.muli v134 c1_i32_105
  let v136 : BitVec 32 := Scalar.addi c0_i32_106 v135
  v136.toNat
def k0_dev11 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_110 : BitVec 32 := 1#32
  let v144 : BitVec 32 := Scalar.addi v3 c1_i32_110
  let c1_i32_111 : BitVec 32 := 1#32
  let v145 : BitVec 32 := Scalar.addi v144 c1_i32_111
  let c4_i32_112 : BitVec 32 := 4#32
  let v146 : BitVec 32 := Scalar.remsi v145 c4_i32_112
  let v150 : BitVec 32 := Scalar.addi v21 v146
  let c1_i32_121 : BitVec 32 := 1#32
  let v151 : BitVec 32 := Scalar.muli v150 c1_i32_121
  let v152 : BitVec 32 := Scalar.addi c0_i32_122 v151
  v152.toNat
def k0_dev12 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_126 : BitVec 32 := 1#32
  let v160 : BitVec 32 := Scalar.addi v3 c1_i32_126
  let c2_i32_127 : BitVec 32 := 2#32
  let v161 : BitVec 32 := Scalar.addi v160 c2_i32_127
  let c4_i32_128 : BitVec 32 := 4#32
  let v162 : BitVec 32 := Scalar.remsi v161 c4_i32_128
  let v166 : BitVec 32 := Scalar.addi v21 v162
  let c1_i32_137 : BitVec 32 := 1#32
  let v167 : BitVec 32 := Scalar.muli v166 c1_i32_137
  let v168 : BitVec 32 := Scalar.addi c0_i32_138 v167
  v168.toNat
def k0_dev13 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_150 : BitVec 32 := 1#32
  let v190 : BitVec 32 := Scalar.addi v3 c1_i32_150
  let c0_i32_151 : BitVec 32 := 0#32
  let v191 : BitVec 32 := Scalar.addi v190 c0_i32_151
  let c4_i32_152 : BitVec 32 := 4#32
  let v192 : BitVec 32 := Scalar.remsi v191 c4_i32_152
  let v196 : BitVec 32 := Scalar.addi v21 v192
  let c1_i32_161 : BitVec 32 := 1#32
  let v197 : BitVec 32 := Scalar.muli v196 c1_i32_161
  let v198 : BitVec 32 := Scalar.addi c0_i32_162 v197
  v198.toNat
def k0_dev14 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_166 : BitVec 32 := 1#32
  let v206 : BitVec 32 := Scalar.addi v3 c1_i32_166
  let c1_i32_167 : BitVec 32 := 1#32
  let v207 : BitVec 32 := Scalar.addi v206 c1_i32_167
  let c4_i32_168 : BitVec 32 := 4#32
  let v208 : BitVec 32 := Scalar.remsi v207 c4_i32_168
  let v212 : BitVec 32 := Scalar.addi v21 v208
  let c1_i32_177 : BitVec 32 := 1#32
  let v213 : BitVec 32 := Scalar.muli v212 c1_i32_177
  let v214 : BitVec 32 := Scalar.addi c0_i32_178 v213
  v214.toNat
def k0_dev15 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_182 : BitVec 32 := 1#32
  let v222 : BitVec 32 := Scalar.addi v3 c1_i32_182
  let c2_i32_183 : BitVec 32 := 2#32
  let v223 : BitVec 32 := Scalar.addi v222 c2_i32_183
  let c4_i32_184 : BitVec 32 := 4#32
  let v224 : BitVec 32 := Scalar.remsi v223 c4_i32_184
  let v228 : BitVec 32 := Scalar.addi v21 v224
  let c1_i32_193 : BitVec 32 := 1#32
  let v229 : BitVec 32 := Scalar.muli v228 c1_i32_193
  let v230 : BitVec 32 := Scalar.addi c0_i32_194 v229
  v230.toNat
def k0_dev16 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_206 : BitVec 32 := 1#32
  let v252 : BitVec 32 := Scalar.addi v3 c1_i32_206
  let c0_i32_207 : BitVec 32 := 0#32
  let v253 : BitVec 32 := Scalar.addi v252 c0_i32_207
  let c4_i32_208 : BitVec 32 := 4#32
  let v254 : BitVec 32 := Scalar.remsi v253 c4_i32_208
  let v258 : BitVec 32 := Scalar.addi v21 v254
  let c1_i32_217 : BitVec 32 := 1#32
  let v259 : BitVec 32 := Scalar.muli v258 c1_i32_217
  let v260 : BitVec 32 := Scalar.addi c0_i32_218 v259
  v260.toNat
def k0_dev17 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_222 : BitVec 32 := 1#32
  let v268 : BitVec 32 := Scalar.addi v3 c1_i32_222
  let c1_i32_223 : BitVec 32 := 1#32
  let v269 : BitVec 32 := Scalar.addi v268 c1_i32_223
  let c4_i32_224 : BitVec 32 := 4#32
  let v270 : BitVec 32 := Scalar.remsi v269 c4_i32_224
  let v274 : BitVec 32 := Scalar.addi v21 v270
  let c1_i32_233 : BitVec 32 := 1#32
  let v275 : BitVec 32 := Scalar.muli v274 c1_i32_233
  let v276 : BitVec 32 := Scalar.addi c0_i32_234 v275
  v276.toNat
def k0_dev18 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_238 : BitVec 32 := 1#32
  let v284 : BitVec 32 := Scalar.addi v3 c1_i32_238
  let c2_i32_239 : BitVec 32 := 2#32
  let v285 : BitVec 32 := Scalar.addi v284 c2_i32_239
  let c4_i32_240 : BitVec 32 := 4#32
  let v286 : BitVec 32 := Scalar.remsi v285 c4_i32_240
  let v290 : BitVec 32 := Scalar.addi v21 v286
  let c1_i32_249 : BitVec 32 := 1#32
  let v291 : BitVec 32 := Scalar.muli v290 c1_i32_249
  let v292 : BitVec 32 := Scalar.addi c0_i32_250 v291
  v292.toNat
def k0_off4 (d0 : Dev nD) (c0_i32_255 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_254 : BitVec 32 := 1#32
  let v300 : BitVec 32 := Scalar.addi v20 c1_i32_254
  let v301 : BitVec 32 := Scalar.addi v300 c0_i32_255
  let c4_i32_256 : BitVec 32 := 4#32
  let v302 : BitVec 32 := Scalar.remsi v301 c4_i32_256
  let c4_i32_257 : BitVec 32 := 4#32
  let v303 : BitVec 32 := Scalar.muli v302 c4_i32_257
  let c4_i32 : BitVec 32 := 4#32
  let v3 : BitVec 32 := Scalar.remsi v2 c4_i32
  let v304 : BitVec 32 := Scalar.addi v303 v3
  let c48_i32_258 : BitVec 32 := 48#32
  let v305 : BitVec 32 := Scalar.muli v304 c48_i32_258
  let v306 : Index := Scalar.indexCast v305
  let c0_259 : Index := 0#32
  ![v306.toNat, 0]
def k0_dev19 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_306 : BitVec 32 := 1#32
  let v346 : BitVec 32 := Scalar.addi v20 c1_i32_306
  let c0_i32_307 : BitVec 32 := 0#32
  let v347 : BitVec 32 := Scalar.addi v346 c0_i32_307
  let c4_i32_308 : BitVec 32 := 4#32
  let v348 : BitVec 32 := Scalar.remsi v347 c4_i32_308
  let c4_i32_309 : BitVec 32 := 4#32
  let v349 : BitVec 32 := Scalar.muli v348 c4_i32_309
  let c4_i32 : BitVec 32 := 4#32
  let v3 : BitVec 32 := Scalar.remsi v2 c4_i32
  let v350 : BitVec 32 := Scalar.addi v349 v3
  let c1_i32_314 : BitVec 32 := 1#32
  let v351 : BitVec 32 := Scalar.muli v350 c1_i32_314
  let v352 : BitVec 32 := Scalar.addi c0_i32_315 v351
  v352.toNat
def k0_dev20 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_374 : BitVec 32 := 1#32
  let v407 : BitVec 32 := Scalar.addi v20 c1_i32_374
  let c1_i32_375 : BitVec 32 := 1#32
  let v408 : BitVec 32 := Scalar.addi v407 c1_i32_375
  let c4_i32_376 : BitVec 32 := 4#32
  let v409 : BitVec 32 := Scalar.remsi v408 c4_i32_376
  let c4_i32_377 : BitVec 32 := 4#32
  let v410 : BitVec 32 := Scalar.muli v409 c4_i32_377
  let c4_i32 : BitVec 32 := 4#32
  let v3 : BitVec 32 := Scalar.remsi v2 c4_i32
  let v411 : BitVec 32 := Scalar.addi v410 v3
  let c1_i32_382 : BitVec 32 := 1#32
  let v412 : BitVec 32 := Scalar.muli v411 c1_i32_382
  let v413 : BitVec 32 := Scalar.addi c0_i32_383 v412
  v413.toNat
def k0_dev21 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_442 : BitVec 32 := 1#32
  let v468 : BitVec 32 := Scalar.addi v20 c1_i32_442
  let c2_i32_443 : BitVec 32 := 2#32
  let v469 : BitVec 32 := Scalar.addi v468 c2_i32_443
  let c4_i32_444 : BitVec 32 := 4#32
  let v470 : BitVec 32 := Scalar.remsi v469 c4_i32_444
  let c4_i32_445 : BitVec 32 := 4#32
  let v471 : BitVec 32 := Scalar.muli v470 c4_i32_445
  let c4_i32 : BitVec 32 := 4#32
  let v3 : BitVec 32 := Scalar.remsi v2 c4_i32
  let v472 : BitVec 32 := Scalar.addi v471 v3
  let c1_i32_450 : BitVec 32 := 1#32
  let v473 : BitVec 32 := Scalar.muli v472 c1_i32_450
  let v474 : BitVec 32 := Scalar.addi c0_i32_451 v473
  v474.toNat
abbrev stage0_0 : Fin 1 → Memref sig .tc .vmem S768x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x6144 : Shape := ⟨2, ![768, 6144]⟩
abbrev S6144x768 : Shape := ⟨2, ![6144, 768]⟩
abbrev S768x768 : Shape := ⟨2, ![768, 768]⟩

abbrev nBuf : Space → Nat
  | .hbm => 5
  | .vmem => 0
  | .smem => 0
  | _ => 0

abbrev bufTy : (tb : Table) → Fin (tcTables nBuf tb) → BufTy
  | .hbm, ⟨0, _⟩ => ⟨S768x6144, .bf16⟩
  | .hbm, ⟨1, _⟩ => ⟨S6144x768, .bf16⟩
  | .hbm, ⟨2, _⟩ => ⟨S768x6144, .f32⟩
  | .hbm, ⟨3, _⟩ => ⟨S6144x768, .f32⟩
  | .hbm, ⟨4, _⟩ => ⟨S768x768, .f32⟩
  | _, _ => ⟨S768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Mesh.lean ====
/-
The sixteen devices seen as four planes of four, and the buffers and semaphores the kernel names.

Device `c` is number `c % 4` of plane `c / 4`. In the first phase it talks to the three other devices of
its plane, in the second to the three devices holding its number in the other planes. Every address the
kernel computes (device numbers, row offsets, semaphores) is given here in closed form.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.TwoPhase

open Cert.KernelIdeal Cert.KernelIdeal.Gen
open Idealize.ShloMosaic Idealize.ShloMosaic.TcCoe

/-! ## Peers -/

/-- The device `1 + k` places further on in `c`'s own plane. -/
def planeOn (k : Fin 3) (c : Dev nD) : Dev nD :=
  ⟨c.val / 4 * 4 + (c.val % 4 + 1 + k.val) % 4, by have := c.isLt; unfold nD at *; omega⟩
/-- The device with `c`'s number `1 + h` planes further on. -/
def crossOn (h : Fin 3) (c : Dev nD) : Dev nD :=
  ⟨(c.val + 4 * (1 + h.val)) % 16, by unfold nD; omega⟩
/-- The step that undoes step `k`. -/
def back (k : Fin 3) : Fin 3 := ⟨2 - k.val, by omega⟩

theorem planeOn_back : ∀ (k : Fin 3) (c : Dev nD), planeOn (back k) (planeOn k c) = c := by decide +kernel
theorem planeOn_back' : ∀ (k : Fin 3) (c : Dev nD), planeOn k (planeOn (back k) c) = c := by decide +kernel
theorem crossOn_back : ∀ (h : Fin 3) (c : Dev nD), crossOn (back h) (crossOn h c) = c := by decide +kernel
theorem crossOn_back' : ∀ (h : Fin 3) (c : Dev nD), crossOn h (crossOn (back h) c) = c := by decide +kernel
theorem back_back : ∀ k : Fin 3, back (back k) = k := by decide

/-- Moving on in the plane, as a rearrangement of the devices. -/
def pp (k : Fin 3) : Dev nD ≃ Dev nD := ⟨planeOn k, planeOn (back k), planeOn_back k, planeOn_back' k⟩
/-- Moving on across planes, as a rearrangement of the devices. -/
def zp (h : Fin 3) : Dev nD ≃ Dev nD := ⟨crossOn h, crossOn (back h), crossOn_back h, crossOn_back' h⟩

theorem pp_symm (k : Fin 3) (c : Dev nD) : (pp k).symm c = pp (back k) c := rfl
theorem zp_symm (h : Fin 3) (c : Dev nD) : (zp h).symm c = zp (back h) c := rfl
theorem pp_back (k : Fin 3) (c : Dev nD) : pp (back k) (pp k c) = c := planeOn_back k c
theorem zp_back (h : Fin 3) (c : Dev nD) : zp (back h) (zp h c) = c := crossOn_back h c

/-! ## The devices the kernel addresses -/

theorem signal_to : ∀ c : Dev nD,
    ((⟨k0_dev1 c, k0_dev1_lt c⟩ : Dev nD) = pp 0 c ∧ (⟨k0_dev3 c, k0_dev3_lt c⟩ : Dev nD) = pp 1 c ∧ (⟨k0_dev5 c, k0_dev5_lt c⟩ : Dev nD) = pp 2 c)
      ∧ (⟨k0_dev2 c, k0_dev2_lt c⟩ : Dev nD) = zp 0 c ∧ (⟨k0_dev4 c, k0_dev4_lt c⟩ : Dev nD) = zp 1 c ∧ (⟨k0_dev6 c, k0_dev6_lt c⟩ : Dev nD) = zp 2 c := by
  decide +kernel

theorem first_to : ∀ c : Dev nD,
    ((⟨k0_dev7 c, k0_dev7_lt c⟩ : Dev nD) = pp 0 c ∧ (⟨k0_dev8 c, k0_dev8_lt c⟩ : Dev nD) = pp 1 c ∧ (⟨k0_dev9 c, k0_dev9_lt c⟩ : Dev nD) = pp 2 c)
      ∧ ((⟨k0_dev10 c, k0_dev10_lt c⟩ : Dev nD) = pp 0 c ∧ (⟨k0_dev11 c, k0_dev11_lt c⟩ : Dev nD) = pp 1 c ∧ (⟨k0_dev12 c, k0_dev12_lt c⟩ : Dev nD) = pp 2 c)
      ∧ ((⟨k0_dev13 c, k0_dev13_lt c⟩ : Dev nD) = pp 0 c ∧ (⟨k0_dev14 c, k0_dev14_lt c⟩ : Dev nD) = pp 1 c ∧ (⟨k0_dev15 c, k0_dev15_lt c⟩ : Dev nD) = pp 2 c)
      ∧ (⟨k0_dev16 c, k0_dev16_lt c⟩ : Dev nD) = pp 0 c ∧ (⟨k0_dev17 c, k0_dev17_lt c⟩ : Dev nD) = pp 1 c ∧ (⟨k0_dev18 c, k0_dev18_lt c⟩ : Dev nD) = pp 2 c := by
  decide +kernel

theorem second_to : ∀ c : Dev nD,
    (⟨k0_dev19 c, k0_dev19_lt c⟩ : Dev nD) = zp 0 c ∧ (⟨k0_dev20 c, k0_dev20_lt c⟩ : Dev nD) = zp 1 c ∧ (⟨k0_dev21 c, k0_dev21_lt c⟩ : Dev nD) = zp 2 c := by
  decide +kernel

/-! ## The rows the kernel addresses -/

/-- First row of the group of rows computed at step `h`: the rows of the plane `1 + h` further on. -/
def grpRow (c : Dev nD) (h : Fin 4) : ℕ := 192 * ((c.val / 4 + 1 + h.val) % 4)
/-- Within a group, first row of the part that belongs to the device `1 + j` places further on (`j = 3`: to `c` itself). -/
def subRow (c : Dev nD) (j : Fin 4) : ℕ := 48 * ((c.val % 4 + 1 + j.val) % 4)

theorem grpRow_le (c : Dev nD) (h : Fin 4) : grpRow c h + 192 ≤ 768 := by unfold grpRow; omega
theorem subRow_le (c : Dev nD) (j : Fin 4) : subRow c j + 48 ≤ 192 := by unfold subRow; omega

theorem off1_eq : ∀ (c : Dev nD) (h : Fin 4), k0_off1 c (BitVec.ofNat 32 h.val) = ![grpRow c h, 0] := by decide +kernel
theorem off2_eq : ∀ (c : Dev nD) (h : Fin 4), k0_off2 c (BitVec.ofNat 32 h.val) = ![grpRow c h, 0] := by decide +kernel
theorem off3_eq : ∀ (c : Dev nD) (h : Fin 4) (k : Fin 3),
    k0_off3 c (BitVec.ofNat 32 h.val) (BitVec.ofNat 32 k.val) = ![grpRow c h + subRow c k.castSucc, 0] := by decide +kernel
theorem off4_eq : ∀ (c : Dev nD) (h : Fin 4), k0_off4 c (BitVec.ofNat 32 h.val) = ![grpRow c h + subRow c 3, 0] := by decide +kernel

/-! ## Buffers -/

/-- The staged blocks of `A` and `B`, and the result's. -/
abbrev aM : Memref sig .tc .vmem S768x384 .bf16 := Memref.whole cc0_stg0_0
abbrev bM : Memref sig .tc .vmem S384x768 .bf16 := Memref.whole cc0_stg1_0
abbrev oM : Memref sig .tc .vmem S48x768 .f32 := Memref.whole cc0_stg2_0
/-- This device's partial product; the sums it sends across planes; the landing buffers of the two phases. -/
abbrev partM : Memref sig .tc .vmem S768x768 .bf16 := Memref.whole cc0_scratch0
abbrev sumM : Memref sig .tc .vmem S3x48x768 .bf16 := Memref.whole cc0_scratch1
abbrev landM : Memref sig .tc .vmem S3x4x48x768 .bf16 := Memref.whole cc0_scratch2
abbrev crossM : Memref sig .tc .vmem S3x48x768 .bf16 := Memref.whole cc0_scratch3

theorem inb_slot4 : ∀ (k : Fin 3) (h : Fin 4), ∀ a, (![k.val, h.val, 0, 0] : Fin 4 → Nat) a + S1x1x48x768.size a ≤ S3x4x48x768.size a := by decide
theorem inb_slot3 : ∀ (h : Fin 3), ∀ a, (![h.val, 0, 0] : Fin 3 → Nat) a + S1x48x768.size a ≤ S3x48x768.size a := by decide
theorem inb_rows {o n : ℕ} (h : o + n ≤ 768) : ∀ a, (![o, 0] : Fin 2 → Nat) a + (⟨2, ![n, 768]⟩ : Shape).size a ≤ S768x768.size a :=
  Fin.forall_fin_two.mpr ⟨h, Nat.le_refl _⟩

/-- Slot `(k, h)` of the first landing buffer, slot `h` of the buffers of the second phase. -/
abbrev slotR (k : Fin 3) (h : Fin 4) : Rect S3x4x48x768 := Rect.unit (s := S3x4x48x768) ![k.val, h.val, 0, 0] S1x1x48x768.size (inb_slot4 k h)
abbrev rowR (h : Fin 3) : Rect S3x48x768 := Rect.unit (s := S3x48x768) ![h.val, 0, 0] S1x48x768.size (inb_slot3 h)
abbrev land (k : Fin 3) (h : Fin 4) : Memref sig .tc .vmem S48x768 .bf16 :=
  (landM.slice (slotR k h) (fun _ => rfl)).squeeze S48x768 squeezes_S1x1x48x768_S48x768
abbrev summ (h : Fin 3) : Memref sig .tc .vmem S48x768 .bf16 :=
  (sumM.slice (rowR h) (fun _ => rfl)).squeeze S48x768 squeezes_S1x48x768_S48x768
abbrev cross (h : Fin 3) : Memref sig .tc .vmem S48x768 .bf16 :=
  (crossM.slice (rowR h) (fun _ => rfl)).squeeze S48x768 squeezes_S1x48x768_S48x768

/-- The rows of group `h` of the partial product, and the part `j` of that group. -/
abbrev grpR (c : Dev nD) (h : Fin 4) : Rect S768x768 := Rect.unit (s := S768x768) ![grpRow c h, 0] S192x768.size (inb_rows (grpRow_le c h))
theorem inb_chunk (c : Dev nD) (h j : Fin 4) : grpRow c h + subRow c j + 48 ≤ 768 := by
  have := grpRow_le c h; have := subRow_le c j; omega
abbrev chunkR (c : Dev nD) (h j : Fin 4) : Rect S768x768 :=
  Rect.unit (s := S768x768) ![grpRow c h + subRow c j, 0] S48x768.size (inb_rows (inb_chunk c h j))
abbrev chunk (c : Dev nD) (h j : Fin 4) : Memref sig .tc .vmem S48x768 .bf16 := partM.slice (chunkR c h j) (fun _ => rfl)

/-! ## Semaphores -/

/-- The barrier semaphore, and the DMA semaphores: first phase sends and arrivals, second phase sends and arrivals. -/
abbrev barS : Sem sig := (SemArray.scalar (sig.barrier 0 rfl) : Sems sig S_).sem
def dS (n : ℕ) (h : n < 33) : DmaSem sig := (⟨n, h⟩ : Fin 33)
def s1 (k : Fin 3) (h : Fin 4) : DmaSem sig := dS (4 * k.val + h.val + 3) (by omega)
def r1 (k : Fin 3) (h : Fin 4) : DmaSem sig := dS (12 + (4 * k.val + h.val) + 3) (by omega)
def s2 (h : Fin 3) : DmaSem sig := dS (24 + h.val + 3) (by omega)
def r2 (h : Fin 3) : DmaSem sig := dS (27 + h.val + 3) (by omega)

end Cert.TwoPhase
end
-- ==== Proof.Contents.lean ====
/-
What the buffers hold: the blocks of the partial product a device computes, the sums it forms after the
first phase, and the result it has after the second, each as a function of the two argument arrays.
-/
module

public import proofs.«01_k».proof.Proof.Mesh

@[expose] public section

noncomputable section

namespace Cert.TwoPhase

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-- The machine at launch: memory `m`, every counter zero. -/
def s₀ : MemSt nD τ sig (Elt F) := ⟨m, fun _ => 0, ρ⟩

/-- The blocks of `A` and `B` that device `c` holds. -/
def Xa (c : Dev nD) : (cc0_stg0_0 : Ref sig .tc).ty.Contents (Elt F) :=
  (win0_0.blk (0 : Fin 1)).view.read (Elt F) ((s₀ m ρ).mem ((c : Thread nD τ).loc main_arg0))
def Xb (c : Dev nD) : (cc0_stg1_0 : Ref sig .tc).ty.Contents (Elt F) :=
  (win0_1.blk (0 : Fin 1)).view.read (Elt F) ((s₀ m ρ).mem ((c : Thread nD τ).loc main_arg1))

theorem inb_aRows (c : Dev nD) (h : Fin 4) : ∀ a, (![grpRow c h, 0] : Fin 2 → Nat) a + S192x384.size a ≤ S768x384.size a :=
  Fin.forall_fin_two.mpr ⟨grpRow_le c h, Nat.le_refl _⟩
abbrev aRowsR (c : Dev nD) (h : Fin 4) : Rect S768x384 := Rect.unit (s := S768x384) ![grpRow c h, 0] S192x384.size (inb_aRows c h)
/-- The rows of `A` that step `h` multiplies. -/
def aRows (c : Dev nD) (h : Fin 4) : Vec F S192x384 .bf16 := aM.view.readAt (Elt F) (aRowsR c h).toLoadRect (Xa m ρ c)

/-- Group `h` of the partial product of device `c`. -/
def grp (c : Dev nD) (h : Fin 4) : Vec F S192x768 .bf16 := k0_pay8 (k0_pay1 (Xb m ρ c)) (aRows m ρ c h)

/-- Where part `j` of a group lies in it. -/
def rowIn (c : Dev nD) (j : Fin 4) (x : S48x768.Idx) : S192x768.Idx
  | ⟨0, _⟩ => ⟨subRow c j + (x 0).val, by have := (x 0).isLt; have := subRow_le c j; show _ < 192; change (x 0).val < 48 at *; omega⟩
  | ⟨1, _⟩ => x 1

/-- Part `j` of group `h`: the partial product's rows for the device `1 + j` places on, in the plane `1 + h` further on. -/
def part (c : Dev nD) (h j : Fin 4) : Vec F S48x768 .bf16 := fun x => grp m ρ c h (rowIn c j x)

/-- What arrives in slot `(k, h)` of device `c`. -/
def arr (c : Dev nD) (k : Fin 3) (h : Fin 4) : Vec F S48x768 .bf16 := part m ρ ((pp k).symm c) h k.castSucc

theorem casts4 : S48x768.ShapeCasts S1x1x48x768 := by decide
/-- A block with leading axes of extent one, as the loads of slots deliver it. -/
def up4 (X : Vec F S48x768 .bf16) : Vec F S1x1x48x768 .bf16 := shapeCast S1x1x48x768 X casts4
def up3 (X : Vec F S48x768 .bf16) : Vec F S1x48x768 .bf16 := shapeCast S1x48x768 X shapeCasts_S48x768_S1x48x768
def down3 (X : Vec F S1x48x768 .bf16) : Vec F S48x768 .bf16 := shapeCast S48x768 X shapeCasts_S1x48x768_S48x768

/-- The own block and the three that arrived, added up, in the narrow format and as stored. -/
def planeSum (o x y z : Vec F S48x768 .bf16) : Vec F S1x48x768 .bf16 :=
  k0_pay11 (k0_pay9 o (up4 x)) (k0_pay10 (up4 y)) (up4 z)
/-- The same sum left in the wide format: the last group's. -/
def wideSum (o x y z : Vec F S48x768 .bf16) : Vec F S48x768 .f32 :=
  k0_pay20 (k0_pay19 (k0_pay18 o) (up4 x) (up4 y)) (up4 z)

/-- The sum over the plane of `c` of the rows that the device across planes at step `h` is to own. -/
def zsum (c : Dev nD) (h : Fin 3) : Vec F S48x768 .bf16 :=
  down3 (planeSum (part m ρ c h.castSucc 3) (arr m ρ c 0 h.castSucc) (arr m ρ c 1 h.castSucc) (arr m ρ c 2 h.castSucc))
/-- What arrives in slot `h` of the second landing buffer. -/
def zarr (c : Dev nD) (h : Fin 3) : Vec F S48x768 .bf16 := zsum m ρ ((zp h).symm c) h

/-- The result of device `c`: its own plane's sum and the three that arrived. -/
def outOf (w : Vec F S48x768 .f32) (x y z : Vec F S48x768 .bf16) : Vec F S48x768 .f32 :=
  k0_pay23 (k0_pay22 (k0_pay21 w (up3 x)) (up3 y)) (up3 z)
def outAt (c : Dev nD) : (cc0_stg2_0 : Ref sig .tc).ty.Contents (Elt F) :=
  outOf (wideSum (part m ρ c 3 3) (arr m ρ c 0 3) (arr m ρ c 1 3) (arr m ρ c 2 3)) (zarr m ρ c 0) (zarr m ρ c 1) (zarr m ρ c 2)

/-! ## The kernel's spellings of these -/

theorem pay_first (b : Vec F S384x768 .bf16) (a : Vec F S192x384 .bf16) : k0_pay3 (k0_pay2 b a) = k0_pay8 (k0_pay1 b) a := rfl
theorem pay_second (b : Vec F S384x768 .bf16) (a : Vec F S192x384 .bf16) : k0_pay5 (k0_pay4 (k0_pay1 b) a) = k0_pay8 (k0_pay1 b) a := rfl
theorem pay_third (b : Vec F S384x768 .bf16) (a : Vec F S192x384 .bf16) : k0_pay7 (k0_pay1 b) (k0_pay6 a) = k0_pay8 (k0_pay1 b) a := rfl
theorem sum_second (o : Vec F S48x768 .bf16) (x y z : Vec F S1x1x48x768 .bf16) :
    k0_pay13 (k0_pay12 o x) y z = k0_pay11 (k0_pay9 o x) (k0_pay10 y) z := rfl
theorem sum_third (o : Vec F S48x768 .bf16) (x y z : Vec F S1x1x48x768 .bf16) :
    k0_pay17 (k0_pay16 (k0_pay14 o) (k0_pay15 x) y z) = k0_pay11 (k0_pay9 o x) (k0_pay10 y) z := rfl

/-! ## Dropping and adding axes of extent one -/

theorem cast_cast_eq {α : Type} {s t : Shape} (h : s.ShapeCasts t) (h' : t.ShapeCasts s) (X : s.Idx → α) :
    shapeCast s (shapeCast t X h) h' = X := by
  funext i
  show X (Shape.reshapeEquiv h (Shape.reshapeEquiv h' i)) = X i
  congr 1
  apply s.rowMajor.injective
  apply Fin.ext
  rw [Shape.rowMajor_reshapeEquiv, Shape.rowMajor_reshapeEquiv]

theorem up3_down3 (X : Vec F S1x48x768 .bf16) : up3 (down3 X) = X := cast_cast_eq _ _ X

end Cert.TwoPhase
end
-- ==== Proof.Protocol.lean ====
/-
The protocol: what each semaphore counts, what every unit of it hands over, what a device owes the others at
the start and in which order it pays.

A device's barrier semaphore gets one unit from each of the six devices it will send to; with its unit such a
device hands over the slots the sender may write. Each transfer has a semaphore of its own at either end: the
sender's returns the block that was read, the receiver's delivers the slot that was written.
-/
module

public import proofs.«01_k».proof.Proof.Contents

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The units of a semaphore's round: a phase and a step in it. Semaphores of transfers use `(false, 0)` only. -/
abbrev Duty : Type := Bool × Fin 3
abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-! ## The semaphores, numbered -/

/-- The semaphores the kernel allocates, then with the barrier in front. -/
abbrev osem : Fin 30 → SemLoc sig := fun j => .dma (dS (j.val + 3) (by omega))
def cellS : Fin 31 → SemLoc sig := Fin.cases (.reg barS) osem
abbrev kcell (ck : Dev nD × Fin 31) : GSem nD τ sig := ((ck.1 : Thread nD τ), cellS ck.2)

def iS1 (k : Fin 3) (h : Fin 4) : Fin 31 := Fin.succ ⟨4 * k.val + h.val, by omega⟩
def iR1 (k : Fin 3) (h : Fin 4) : Fin 31 := Fin.succ ⟨12 + (4 * k.val + h.val), by omega⟩
def iS2 (h : Fin 3) : Fin 31 := Fin.succ ⟨24 + h.val, by omega⟩
def iR2 (h : Fin 3) : Fin 31 := Fin.succ ⟨27 + h.val, by omega⟩

theorem cellS_bar : cellS 0 = .reg barS := rfl
theorem cellS_s1 (k : Fin 3) (h : Fin 4) : cellS (iS1 k h) = .dma (s1 k h) := rfl
theorem cellS_r1 (k : Fin 3) (h : Fin 4) : cellS (iR1 k h) = .dma (r1 k h) := rfl
theorem cellS_s2 (h : Fin 3) : cellS (iS2 h) = .dma (s2 h) := rfl
theorem cellS_r2 (h : Fin 3) : cellS (iR2 h) = .dma (r2 h) := rfl

/-- The credit of one block's transfer. -/
abbrev N : ℕ := (land 0 0).view.dmaCredit
theorem N_pos : 0 < N := View.dmaCredit_pos _ (by decide)

/-! ## What the units hand over -/

/-- The slots of device `p` at step `k` of the first phase, with anything in them. -/
def freeLand (p : Dev nD) (k : Fin 3) : sProp 𝕄 :=
  bigSep Finset.univ fun h : Fin 4 => iprop(∃ X, owns (p : Thread nD τ) (land k h) fullShare X)
/-- The slot of device `p` at step `h` of the second phase, with anything in it. -/
def freeCross (p : Dev nD) (h : Fin 3) : sProp 𝕄 := iprop(∃ X, owns (p : Thread nD τ) (cross h) fullShare X)

/-- The unit `(false, k)` of `c`'s barrier hands it the slots it writes at step `k` of the first phase,
    the unit `(true, h)` the slot it writes at step `h` of the second. -/
def barPay (c : Dev nD) (d : Duty) : sProp 𝕄 := if d.1 then freeCross (zp d.2 c) d.2 else freeLand (pp d.2 c) d.2

def s1Pay (c : Dev nD) (k : Fin 3) (h : Fin 4) : sProp 𝕄 := owns (c : Thread nD τ) (chunk c h k.castSucc) fullShare (part m ρ c h k.castSucc)
def r1Pay (c : Dev nD) (k : Fin 3) (h : Fin 4) : sProp 𝕄 := owns (c : Thread nD τ) (land k h) fullShare (arr m ρ c k h)
def s2Pay (c : Dev nD) (h : Fin 3) : sProp 𝕄 := owns (c : Thread nD τ) (summ h) fullShare (zsum m ρ c h)
def r2Pay (c : Dev nD) (h : Fin 3) : sProp 𝕄 := owns (c : Thread nD τ) (cross h) fullShare (zarr m ρ c h)

instance freeLand_storable (p : Dev nD) (k : Fin 3) : BI.Storable (upEmb : UEmb _ 𝕄) (freeLand (F := F) p k) := by unfold freeLand; infer_instance
instance freeCross_storable (p : Dev nD) (h : Fin 3) : BI.Storable (upEmb : UEmb _ 𝕄) (freeCross (F := F) p h) := by unfold freeCross; infer_instance
instance barPay_storable (c : Dev nD) (d : Duty) : BI.Storable (upEmb : UEmb _ 𝕄) (barPay (F := F) c d) := by unfold barPay; split <;> infer_instance
instance s1Pay_storable (c : Dev nD) (k : Fin 3) (h : Fin 4) : BI.Storable (upEmb : UEmb _ 𝕄) (s1Pay m ρ c k h) := by unfold s1Pay; infer_instance
instance r1Pay_storable (c : Dev nD) (k : Fin 3) (h : Fin 4) : BI.Storable (upEmb : UEmb _ 𝕄) (r1Pay m ρ c k h) := by unfold r1Pay; infer_instance
instance s2Pay_storable (c : Dev nD) (h : Fin 3) : BI.Storable (upEmb : UEmb _ 𝕄) (s2Pay m ρ c h) := by unfold s2Pay; infer_instance
instance r2Pay_storable (c : Dev nD) (h : Fin 3) : BI.Storable (upEmb : UEmb _ 𝕄) (r2Pay m ρ c h) := by unfold r2Pay; infer_instance

/-- The step and the group a semaphore's number stands for. -/
def kOf (n : ℕ) : Fin 3 := ⟨n / 4 % 3, Nat.mod_lt _ (by decide)⟩
def hOf (n : ℕ) : Fin 4 := ⟨n % 4, Nat.mod_lt _ (by decide)⟩
def tOf (n : ℕ) : Fin 3 := ⟨n % 3, Nat.mod_lt _ (by decide)⟩

theorem kOf_mk (k : Fin 3) (h : Fin 4) : kOf (4 * k.val + h.val) = k := Fin.ext (by show (4 * k.val + h.val) / 4 % 3 = k.val; omega)
theorem hOf_mk (k : Fin 3) (h : Fin 4) : hOf (4 * k.val + h.val) = h := Fin.ext (by show (4 * k.val + h.val) % 4 = h.val; omega)
theorem tOf_mk (h : Fin 3) : tOf h.val = h := Fin.ext (Nat.mod_eq_of_lt h.isLt)

def dmaPay (c : Dev nD) (n : ℕ) : sProp 𝕄 :=
  if n < 15 then s1Pay m ρ c (kOf (n - 3)) (hOf (n - 3))
  else if n < 27 then r1Pay m ρ c (kOf (n - 15)) (hOf (n - 15))
  else if n < 30 then s2Pay m ρ c (tOf (n - 27))
  else r2Pay m ρ c (tOf (n - 30))

instance dmaPay_storable (c : Dev nD) (n : ℕ) : BI.Storable (upEmb : UEmb _ 𝕄) (dmaPay m ρ c n) := by
  unfold dmaPay; (repeat' split) <;> infer_instance

theorem dmaPay_s1 (c : Dev nD) (k : Fin 3) (h : Fin 4) : dmaPay m ρ c (4 * k.val + h.val + 3) = s1Pay m ρ c k h := by
  unfold dmaPay; rw [if_pos (by omega), Nat.add_sub_cancel, kOf_mk, hOf_mk]
theorem dmaPay_r1 (c : Dev nD) (k : Fin 3) (h : Fin 4) : dmaPay m ρ c (12 + (4 * k.val + h.val) + 3) = r1Pay m ρ c k h := by
  unfold dmaPay
  rw [if_neg (by omega), if_pos (by omega), show 12 + (4 * k.val + h.val) + 3 - 15 = 4 * k.val + h.val by omega, kOf_mk, hOf_mk]
theorem dmaPay_s2 (c : Dev nD) (h : Fin 3) : dmaPay m ρ c (24 + h.val + 3) = s2Pay m ρ c h := by
  unfold dmaPay
  rw [if_neg (by omega), if_neg (by omega), if_pos (by omega), show 24 + h.val + 3 - 27 = h.val by omega, tOf_mk]
theorem dmaPay_r2 (c : Dev nD) (h : Fin 3) : dmaPay m ρ c (27 + h.val + 3) = r2Pay m ρ c h := by
  unfold dmaPay
  rw [if_neg (by omega), if_neg (by omega), if_neg (by omega), show 27 + h.val + 3 - 30 = h.val by omega, tOf_mk]

/-! ## The schedule -/

/-- One round of every semaphore. -/
def sched : Rounds.Schedule (GSem nD τ sig) Duty 𝕄 where
  duties g r := if r = 0 ∧ g.1.2 = .tc then (match g.2 with
    | .reg _ => Finset.univ
    | .dma q => if 3 ≤ q.val then {(false, 0)} else ∅) else ∅
  unitless _ := False
  amount g _ _ := match g.2 with
    | .reg _ => 1
    | .dma _ => N
  payload g _ d := match g.2 with
    | .reg _ => barPay g.1.1 d
    | .dma q => dmaPay m ρ g.1.1 q.val
  amount_pos g _ _ _ := by
    cases g.2 with
    | reg _ => exact Nat.one_pos
    | dma _ => exact N_pos

instance sched_payload_storable (g : GSem nD τ sig) (r : ℕ) (d : Duty) :
    BI.Storable (upEmb : UEmb _ 𝕄) ((sched m ρ).payload g r d) := by
  obtain ⟨t, s⟩ := g
  cases s with
  | reg _ => show BI.Storable upEmb (barPay t.1 d); infer_instance
  | dma q => show BI.Storable upEmb (dmaPay m ρ t.1 q.val); infer_instance

section Sched
variable (c : Dev nD)

abbrev cell (q : DmaSem sig) : GSem nD τ sig := ((c : Thread nD τ), .dma q)
abbrev barCell : GSem nD τ sig := ((c : Thread nD τ), .reg barS)

theorem duties_bar : (sched (F := F) m ρ).duties (barCell c) 0 = Finset.univ := by dsimp only [sched]; rw [if_pos ⟨rfl, rfl⟩]
theorem duties_dma (q : DmaSem sig) (hq : 3 ≤ q.val) : (sched (F := F) m ρ).duties (cell c q) 0 = {(false, 0)} := by
  dsimp only [sched]; rw [if_pos ⟨rfl, rfl⟩, if_pos hq]
theorem duties_later (g : GSem nD τ sig) : ∀ r, 1 ≤ r → (sched (F := F) m ρ).duties g r = ∅ :=
  fun r hr => by dsimp only [sched]; rw [if_neg fun h => by omega]

theorem expect_bar : (sched (F := F) m ρ).expect (barCell c) 0 = 6 := by
  unfold Schedule.expect Schedule.amountOf
  rw [duties_bar, Finset.sum_congr rfl fun d _ => show (sched (F := F) m ρ).amount (barCell c) 0 d = 1 from rfl, Finset.sum_const, smul_eq_mul, mul_one]
  rfl
theorem expect_dma (q : DmaSem sig) (hq : 3 ≤ q.val) : (sched (F := F) m ρ).expect (cell c q) 0 = N := by
  unfold Schedule.expect Schedule.amountOf; rw [duties_dma m ρ c q hq, Finset.sum_singleton]; rfl

theorem payload_bar (d : Duty) : (sched (F := F) m ρ).payload (barCell c) 0 d = barPay c d := rfl
theorem payload_s1 (k : Fin 3) (h : Fin 4) (d : Duty) : (sched (F := F) m ρ).payload (cell c (s1 k h)) 0 d = s1Pay m ρ c k h := dmaPay_s1 m ρ c k h
theorem payload_r1 (k : Fin 3) (h : Fin 4) (d : Duty) : (sched (F := F) m ρ).payload (cell c (r1 k h)) 0 d = r1Pay m ρ c k h := dmaPay_r1 m ρ c k h
theorem payload_s2 (h : Fin 3) (d : Duty) : (sched (F := F) m ρ).payload (cell c (s2 h)) 0 d = s2Pay m ρ c h := dmaPay_s2 m ρ c h
theorem payload_r2 (h : Fin 3) (d : Duty) : (sched (F := F) m ρ).payload (cell c (r2 h)) 0 d = r2Pay m ρ c h := dmaPay_r2 m ρ c h

theorem s1_le (k : Fin 3) (h : Fin 4) : 3 ≤ (s1 k h).val := by show 3 ≤ 4 * k.val + h.val + 3; omega
theorem r1_le (k : Fin 3) (h : Fin 4) : 3 ≤ (r1 k h).val := by show 3 ≤ 12 + (4 * k.val + h.val) + 3; omega
theorem s2_le (h : Fin 3) : 3 ≤ (s2 h).val := by show 3 ≤ 24 + h.val + 3; omega
theorem r2_le (h : Fin 3) : 3 ≤ (r2 h).val := by show 3 ≤ 27 + h.val + 3; omega

end Sched

/-! ## What a device owes, and the levels -/

/-- A payment: one unit to a barrier, a block's credit to a transfer's semaphore. -/
def amt (i : Fin 31) : ℕ := if i = 0 then 1 else N
/-- What is owed when the payments `l` are outstanding, the first of `l` to be paid first. -/
def owed : List (Dev nD × Fin 31) → CellTallies nD τ sig Unit
  | [] => 0
  | t :: l => owed l + tallyAt (kcell t) () (amt t.2)

/-- The payments of device `c` in the order of its program. -/
def cross2 (c : Dev nD) : List (Dev nD × Fin 31) := [(zp 0 c, iR2 0), (zp 1 c, iR2 1), (zp 2 c, iR2 2)]
def plane1 (c : Dev nD) (h : Fin 4) : List (Dev nD × Fin 31) := [(pp 0 c, iR1 0 h), (pp 1 c, iR1 1 h), (pp 2 c, iR1 2 h)]
def xfers (c : Dev nD) : List (Dev nD × Fin 31) := plane1 c 0 ++ (plane1 c 1 ++ (plane1 c 2 ++ (plane1 c 3 ++ cross2 c)))
def debts (c : Dev nD) : List (Dev nD × Fin 31) :=
  (pp 0 c, 0) :: (zp 0 c, 0) :: (pp 1 c, 0) :: (zp 1 c, 0) :: (pp 2 c, 0) :: (zp 2 c, 0) :: xfers c

/-- The devices wait in this order: barrier, first arrivals, second arrivals; on everything else when nothing is owed. -/
def rank (s : SemLoc sig) : ℕ := match s with
  | .reg _ => 1
  | .dma q => if q.val < 15 then 0 else if q.val < 27 then 2 else if q.val < 30 then 0 else 3
def L (g : GSem nD τ sig) : Finset Unit := if g.1.2 = .tc then {()} else ∅
def lv (g : GSem nD τ sig) (_ : Unit) : ℕ := rank g.2

theorem L_of_ne (g : GSem nD τ sig) (h : g.1.2 ≠ .tc) : L g = ∅ := if_neg h
theorem L_tc (c : Dev nD) (sm : SemLoc sig) : L ((c : Thread nD τ), sm) = {()} := if_pos rfl

theorem owed_pos : ∀ {l : List (Dev nD × Fin 31)} {g : GSem nD τ sig} {u : Unit}, 0 < owed l g u → ∃ t ∈ l, g = kcell t
  | [], _, _, h => absurd h (Nat.lt_irrefl 0)
  | t :: l, g, u, h => by
    unfold owed at h
    rw [Pi.add_apply, Finsupp.add_apply, tallyAt_apply] at h
    by_cases ht : g = kcell t ∧ u = ()
    · exact ⟨t, List.mem_cons_self, ht.1⟩
    · rw [if_neg ht, Nat.add_zero] at h
      obtain ⟨t', h₁, h₂⟩ := owed_pos h
      exact ⟨t', List.mem_cons_of_mem _ h₁, h₂⟩

/-- A device may wait where everything it owes ranks higher. -/
theorem mayWait (c : Dev nD) (s : SemLoc sig) (l : List (Dev nD × Fin 31)) (hl : ∀ t ∈ l, rank s < rank (cellS t.2)) :
    (levAts L lv : sProp 𝕄) ⊢ MayWait (c : Thread nD τ) s () (owed l) :=
  MayOwe.of_cut (L := L) (lev := lv) (rank s) (fun p hp => by rw [Finset.mem_singleton.mp hp, L_tc]; exact Finset.mem_singleton_self _)
    (fun g u hg => by obtain ⟨t, -, rfl⟩ := owed_pos hg; exact Finset.mem_singleton_self _)
    (fun p hp => by rw [Finset.mem_singleton.mp hp]; exact le_rfl)
    (fun g u hg => by obtain ⟨t, ht, rfl⟩ := owed_pos hg; exact hl t ht)

theorem rank_r1 (k : Fin 3) (h : Fin 4) : rank (.dma (r1 k h)) = 2 := by
  show (if 12 + (4 * k.val + h.val) + 3 < 15 then 0 else if 12 + (4 * k.val + h.val) + 3 < 27 then 2 else _) = 2
  rw [if_neg (by omega), if_pos (by omega)]
theorem rank_r2 (h : Fin 3) : rank (.dma (r2 h)) = 3 := by
  show (if 27 + h.val + 3 < 15 then 0 else if 27 + h.val + 3 < 27 then 2 else if 27 + h.val + 3 < 30 then 0 else 3) = 3
  rw [if_neg (by omega), if_neg (by omega), if_neg (by omega)]

end Cert.TwoPhase
end
-- ==== Proof.Buffers.lean ====
/-
The buffers cut into the pieces the transfers move, and put together again: the partial product into four
groups of rows and each group into four parts, the landing buffers and the buffer of sums into their slots.
-/
module

public import proofs.«01_k».proof.Proof.Protocol
public import Idealize.ShloMosaic.Lib.Ring

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ UU ℕ

theorem bigSep_each {I : Type} [Fintype I] {Φ Ψ : I → sProp 𝕄} (h : ∀ i, Φ i ⊢ Ψ i) : bigSep Finset.univ Φ ⊢ bigSep Finset.univ Ψ :=
  bigSep_mono fun i _ => h i

/-! ## Which elements the pieces have -/

theorem land_set (k : Fin 3) (h : Fin 4) : (land k h).view.set = (slotR k h).set :=
  (View.set_reshape (View.slice (View.whole cc0_scratch2) (slotR k h)) _).trans (View.set_slice_whole _ _)
theorem summ_set (h : Fin 3) : (summ h).view.set = (rowR h).set :=
  (View.set_reshape (View.slice (View.whole cc0_scratch1) (rowR h)) _).trans (View.set_slice_whole _ _)
theorem cross_set (h : Fin 3) : (cross h).view.set = (rowR h).set :=
  (View.set_reshape (View.slice (View.whole cc0_scratch3) (rowR h)) _).trans (View.set_slice_whole _ _)
theorem chunk_set (c : Dev nD) (h j : Fin 4) : (chunk c h j).view.set = (chunkR c h j).set := View.set_slice_whole _ _

theorem mem_slotR (k : Fin 3) (h : Fin 4) (i : S3x4x48x768.Idx) : i ∈ (slotR k h).set ↔ (i 0).val = k.val ∧ (i 1).val = h.val := by
  rw [Rect.mem_set_unit]
  constructor
  · intro H; have h₀ := H 0; have h₁ := H 1
    change k.val ≤ (i 0).val ∧ (i 0).val < k.val + 1 at h₀
    change h.val ≤ (i 1).val ∧ (i 1).val < h.val + 1 at h₁
    omega
  · rintro ⟨h₀, h₁⟩ a
    have := (i a).isLt
    fin_cases a
    · show k.val ≤ (i 0).val ∧ (i 0).val < k.val + 1; omega
    · show h.val ≤ (i 1).val ∧ (i 1).val < h.val + 1; omega
    · exact ⟨Nat.zero_le _, lt_of_lt_of_eq this (Nat.zero_add _).symm⟩
    · exact ⟨Nat.zero_le _, lt_of_lt_of_eq this (Nat.zero_add _).symm⟩
theorem mem_rowR (h : Fin 3) (i : S3x48x768.Idx) : i ∈ (rowR h).set ↔ (i 0).val = h.val := by
  rw [Rect.mem_set_unit]
  constructor
  · intro H; have h₀ := H 0
    change h.val ≤ (i 0).val ∧ (i 0).val < h.val + 1 at h₀
    omega
  · rintro h₀ a
    have := (i a).isLt
    fin_cases a
    · show h.val ≤ (i 0).val ∧ (i 0).val < h.val + 1; omega
    · exact ⟨Nat.zero_le _, lt_of_lt_of_eq this (Nat.zero_add _).symm⟩
    · exact ⟨Nat.zero_le _, lt_of_lt_of_eq this (Nat.zero_add _).symm⟩
theorem mem_rows {o n : ℕ} (ho : o + n ≤ 768) (i : S768x768.Idx) :
    i ∈ (Rect.unit (s := S768x768) ![o, 0] (⟨2, ![n, 768]⟩ : Shape).size (inb_rows ho)).set ↔ o ≤ (i 0).val ∧ (i 0).val < o + n := by
  rw [Rect.mem_set_unit]
  constructor
  · intro H; exact H 0
  · rintro h₀ a
    have := (i a).isLt
    fin_cases a
    · exact h₀
    · exact ⟨Nat.zero_le _, lt_of_lt_of_eq this (Nat.zero_add _).symm⟩

theorem slotR_disjoint (b b' : Fin 3 × Fin 4) (hb : b ≠ b') : Disjoint (slotR b.1 b.2).set (slotR b'.1 b'.2).set :=
  Finset.disjoint_left.mpr fun i h₁ h₂ => by
    rw [mem_slotR] at h₁ h₂
    exact hb (Prod.ext (Fin.ext (h₁.1.symm.trans h₂.1)) (Fin.ext (h₁.2.symm.trans h₂.2)))
theorem slotR_cover : (Finset.univ : Finset (Fin 3 × Fin 4)).biUnion (fun b => (slotR b.1 b.2).set) = Finset.univ :=
  Finset.eq_univ_iff_forall.mpr fun i => Finset.mem_biUnion.mpr
    ⟨(⟨(i 0).val, (i 0).isLt⟩, ⟨(i 1).val, (i 1).isLt⟩), Finset.mem_univ _, (mem_slotR _ _ i).mpr ⟨rfl, rfl⟩⟩
theorem rowR_disjoint (b b' : Fin 3) (hb : b ≠ b') : Disjoint (rowR b).set (rowR b').set :=
  Finset.disjoint_left.mpr fun i h₁ h₂ => by
    rw [mem_rowR] at h₁ h₂
    exact hb (Fin.ext (h₁.symm.trans h₂))
theorem rowR_cover : (Finset.univ : Finset (Fin 3)).biUnion (fun b => (rowR b).set) = Finset.univ :=
  Finset.eq_univ_iff_forall.mpr fun i => Finset.mem_biUnion.mpr ⟨⟨(i 0).val, (i 0).isLt⟩, Finset.mem_univ _, (mem_rowR _ i).mpr rfl⟩

theorem grpR_disjoint (c : Dev nD) (b b' : Fin 4) (hb : b ≠ b') : Disjoint (grpR c b).set (grpR c b').set :=
  Finset.disjoint_left.mpr fun i h₁ h₂ => by
    rw [mem_rows (grpRow_le c _)] at h₁ h₂
    apply hb; apply Fin.ext
    unfold grpRow at h₁ h₂
    have := b.isLt; have := b'.isLt
    omega
theorem grpR_cover (c : Dev nD) : (Finset.univ : Finset (Fin 4)).biUnion (fun b => (grpR c b).set) = Finset.univ :=
  Finset.eq_univ_iff_forall.mpr fun i => Finset.mem_biUnion.mpr
    ⟨⟨((i 0).val / 192 + 7 - c.val / 4) % 4, Nat.mod_lt _ (by decide)⟩, Finset.mem_univ _, (mem_rows (grpRow_le c _) i).mpr (by
      have hi : (i 0).val < 768 := (i 0).isLt
      have hc : c.val < 16 := c.isLt
      unfold grpRow; simp only
      omega)⟩
theorem chunkR_disjoint (c : Dev nD) (h : Fin 4) (b b' : Fin 4) (hb : b ≠ b') : Disjoint (chunkR c h b).set (chunkR c h b').set :=
  Finset.disjoint_left.mpr fun i h₁ h₂ => by
    rw [mem_rows (inb_chunk c h _)] at h₁ h₂
    apply hb; apply Fin.ext
    unfold subRow at h₁ h₂
    have := b.isLt; have := b'.isLt
    omega
theorem chunkR_cover (c : Dev nD) (h : Fin 4) : (Finset.univ : Finset (Fin 4)).biUnion (fun b => (chunkR c h b).set) = (grpR c h).set := by
  ext i
  rw [Finset.mem_biUnion, mem_rows (grpRow_le c _)]
  constructor
  · rintro ⟨b, -, hb⟩
    rw [mem_rows (inb_chunk c h _)] at hb
    have := subRow_le c b
    omega
  · intro hi
    refine ⟨⟨(((i 0).val - grpRow c h) / 48 + 7 - c.val % 4) % 4, Nat.mod_lt _ (by decide)⟩, Finset.mem_univ _, (mem_rows (inb_chunk c h _) i).mpr ?_⟩
    unfold subRow; simp only
    generalize grpRow c h = g at *
    omega

/-! ## The slots -/

/-- A buffer held in one piece at unknown contents. -/
abbrev anyBuf (c : Dev nD) (b : Ref sig .tc) : sProp 𝕄 := iprop(∃ f : Buf (Elt F) ((c : Thread nD τ).loc b), ((c : Thread nD τ).loc b) ↦{fullShare} f)

theorem land_split (c : Dev nD) (f : Buf (Elt F) ((c : Thread nD τ).loc cc0_scratch2)) :
    (((c : Thread nD τ).loc cc0_scratch2) ↦{fullShare} f : sProp 𝕄)
      ⊢ bigSep Finset.univ fun k : Fin 3 => freeLand c k := by
  rw [pointsTo_blocks (fun b : Fin 3 × Fin 4 => (slotR b.1 b.2).set) slotR_disjoint slotR_cover f, bigSep_univ_prod]
  refine bigSep_each fun k => ?_
  unfold freeLand
  refine bigSep_each fun h => ?_
  iintro H; iexists _
  iapply (owns_intro (c : Thread nD τ) (land k h) fullShare f)
  rw [land_set]; iexact H

theorem owns_any (c : Dev nD) (k : Fin 3) (h : Fin 4) (X : Vec F S48x768 .bf16) :
    (owns (c : Thread nD τ) (land k h) fullShare X : sProp 𝕄)
      ⊢ iprop(∃ f : Buf (Elt F) ((c : Thread nD τ).loc cc0_scratch2), ((c : Thread nD τ).loc cc0_scratch2) ↦[(slotR k h).set]{fullShare} f) := by
  unfold owns
  iintro ⟨%f, -, H⟩; iexists f; rw [← land_set]; iexact H

theorem land_join (c : Dev nD) (X : Fin 3 → Fin 4 → Vec F S48x768 .bf16) :
    (bigSep Finset.univ fun k : Fin 3 => bigSep Finset.univ fun h : Fin 4 => (owns (c : Thread nD τ) (land k h) fullShare (X k h) : sProp 𝕄))
      ⊢ anyBuf c cc0_scratch2 := by
  refine BIBase.Entails.trans ?_ (pointsTo_blocks_join_exists (fun b : Fin 3 × Fin 4 => (slotR b.1 b.2).set) slotR_disjoint slotR_cover (fun _ => default))
  rw [bigSep_univ_prod]
  exact bigSep_each fun k => bigSep_each fun h => owns_any c k h _

theorem cross_split (c : Dev nD) (f : Buf (Elt F) ((c : Thread nD τ).loc cc0_scratch3)) :
    (((c : Thread nD τ).loc cc0_scratch3) ↦{fullShare} f : sProp 𝕄) ⊢ bigSep Finset.univ fun h : Fin 3 => freeCross c h := by
  rw [pointsTo_blocks (fun b : Fin 3 => (rowR b).set) rowR_disjoint rowR_cover f]
  refine bigSep_each fun h => ?_
  unfold freeCross
  iintro H; iexists _
  iapply (owns_intro (c : Thread nD τ) (cross h) fullShare f)
  rw [cross_set]; iexact H
theorem cross_join (c : Dev nD) (X : Fin 3 → Vec F S48x768 .bf16) :
    (bigSep Finset.univ fun h : Fin 3 => (owns (c : Thread nD τ) (cross h) fullShare (X h) : sProp 𝕄)) ⊢ anyBuf c cc0_scratch3 := by
  refine BIBase.Entails.trans ?_ (pointsTo_blocks_join_exists (fun b : Fin 3 => (rowR b).set) rowR_disjoint rowR_cover (fun _ => default))
  refine bigSep_each fun h => ?_
  unfold owns
  iintro ⟨%f, -, H⟩; iexists f; rw [← cross_set]; iexact H

/-- The slot `h` of the buffer of sums, with anything in it. -/
def freeSum (c : Dev nD) (h : Fin 3) : sProp 𝕄 := iprop(∃ X, owns (c : Thread nD τ) (summ h) fullShare X)
theorem sum_split (c : Dev nD) (f : Buf (Elt F) ((c : Thread nD τ).loc cc0_scratch1)) :
    (((c : Thread nD τ).loc cc0_scratch1) ↦{fullShare} f : sProp 𝕄) ⊢ bigSep Finset.univ fun h : Fin 3 => freeSum c h := by
  rw [pointsTo_blocks (fun b : Fin 3 => (rowR b).set) rowR_disjoint rowR_cover f]
  refine bigSep_each fun h => ?_
  unfold freeSum
  iintro H; iexists _
  iapply (owns_intro (c : Thread nD τ) (summ h) fullShare f)
  rw [summ_set]; iexact H
theorem sum_join (c : Dev nD) (X : Fin 3 → Vec F S48x768 .bf16) :
    (bigSep Finset.univ fun h : Fin 3 => (owns (c : Thread nD τ) (summ h) fullShare (X h) : sProp 𝕄)) ⊢ anyBuf c cc0_scratch1 := by
  refine BIBase.Entails.trans ?_ (pointsTo_blocks_join_exists (fun b : Fin 3 => (rowR b).set) rowR_disjoint rowR_cover (fun _ => default))
  refine bigSep_each fun h => ?_
  unfold owns
  iintro ⟨%f, -, H⟩; iexists f; rw [← summ_set]; iexact H

/-! ## The partial product -/

/-- The rows of group `h`, with anything in them. -/
def freeGrp (c : Dev nD) (h : Fin 4) : sProp 𝕄 :=
  iprop(∃ f : Buf (Elt F) ((c : Thread nD τ).loc cc0_scratch0), ((c : Thread nD τ).loc cc0_scratch0) ↦[(grpR c h).set]{fullShare} f)
theorem part_split (c : Dev nD) (f : Buf (Elt F) ((c : Thread nD τ).loc cc0_scratch0)) :
    (((c : Thread nD τ).loc cc0_scratch0) ↦{fullShare} f : sProp 𝕄) ⊢ bigSep Finset.univ fun h : Fin 4 => freeGrp c h := by
  rw [pointsTo_blocks (fun b : Fin 4 => (grpR c b).set) (grpR_disjoint c) (grpR_cover c) f]
  refine bigSep_each fun h => ?_
  unfold freeGrp
  iintro H; iexists _; iexact H
theorem part_join (c : Dev nD) (X : Fin 4 → Fin 4 → Vec F S48x768 .bf16) :
    (bigSep Finset.univ fun h : Fin 4 => bigSep Finset.univ fun j : Fin 4 => (owns (c : Thread nD τ) (chunk c h j) fullShare (X h j) : sProp 𝕄))
      ⊢ anyBuf c cc0_scratch0 := by
  refine BIBase.Entails.trans ?_ (pointsTo_blocks_join_exists (fun b : Fin 4 => (grpR c b).set) (grpR_disjoint c) (grpR_cover c) (fun _ => default))
  refine bigSep_each fun h => ?_
  refine BIBase.Entails.trans ?_ (pointsTo_sub_blocks_join_exists (fun b : Fin 4 => (chunkR c h b).set) (chunkR_disjoint c h) _ (chunkR_cover c h) (fun _ => default))
  refine bigSep_each fun j => ?_
  unfold owns
  iintro ⟨%f, -, H⟩; iexists f; rw [← chunk_set]; iexact H

/-- Part `j` of a group, in the group's own rows. -/
theorem chunk_emb (c : Dev nD) (h j : Fin 4) (x : S48x768.Idx) : (chunkR c h j).emb x = (grpR c h).emb (rowIn c j x) :=
  funext fun a => Fin.ext <| match a with
    | ⟨0, _⟩ => (show grpRow c h + subRow c j + 1 * (x 0).val = grpRow c h + 1 * (subRow c j + (x 0).val) by omega)
    | ⟨1, _⟩ => rfl

/-- A group once written: its four parts, each with its rows of what was written. -/
theorem chunk_read (c : Dev nD) (h j : Fin 4) (f : (cc0_scratch0 : Ref sig .tc).ty.Contents (Elt F)) (w : Vec F S192x768 .bf16) :
    (chunk c h j).view.read (Elt F) ((partM.access (grpR c h)).write (Elt F) f w Finset.univ) = fun x => w (rowIn c j x) := by
  funext x
  have hx : (chunk c h j).view.emb x = (partM.access (grpR c h)).emb (rowIn c j x) := chunk_emb c h j x
  rw [View.read_apply, hx, View.write_emb_of_mem (v := partM.access (grpR c h)) f w (Finset.mem_univ _)]
  rfl

theorem grp_parts (c : Dev nD) (h : Fin 4) (f : Buf (Elt F) ((c : Thread nD τ).loc cc0_scratch0)) (w : Vec F S192x768 .bf16) :
    (((c : Thread nD τ).loc cc0_scratch0) ↦[(grpR c h).set]{fullShare} ((partM.access (grpR c h)).write (Elt F) f w Finset.univ) : sProp 𝕄)
      ⊢ bigSep Finset.univ fun j : Fin 4 => owns (c : Thread nD τ) (chunk c h j) fullShare (fun x => w (rowIn c j x)) := by
  rw [pointsTo_sub_blocks (fun b : Fin 4 => (chunkR c h b).set) (chunkR_disjoint c h) _ (chunkR_cover c h)]
  refine bigSep_each fun j => ?_
  rw [← chunk_read c h j f w]
  iintro H
  iapply (owns_intro (c : Thread nD τ) (chunk c h j) fullShare _)
  rw [chunk_set]; iexact H

end Cert.TwoPhase
end
-- ==== Proof.Steps.lean ====
/-
The kernel's operations one at a time: what each needs, what it leaves. Addresses enter as equations, so that one
statement serves every place where the kernel performs the operation.
-/
module

public import proofs.«01_k».proof.Proof.Buffers
public import Idealize.ShloMosaic.Lib.Pipeline.Value

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Programs of a device. -/
abbrev Code (F : FTy → Type) [FloatOps F] (α : Type) : Type 1 := Prog (TpuEff nD τ sig (Elt F) Λ₀ .tc) α
/-- Running a program on device `c`. -/
abbrev run (c : Dev nD) {α : Type} (p : Code F α) (Q : α → sProp 𝕄) : sProp 𝕄 :=
  wp frame (wpE (defs₀ (F := F)) 𝒱₀ (c : Thread nD τ) none) Set.univ p Q

theorem bigSep3 (Φ : Fin 3 → sProp 𝕄) : bigSep Finset.univ Φ = iprop(Φ 0 ∗ Φ 1 ∗ Φ 2) :=
  bigSep_univ_eq_bigSepL [0, 1, 2] (by decide) (by decide) Φ
theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## What is known of every semaphore from the start -/

variable (K : Dev nD × Fin 31 → ℕ)

def record (ck : Dev nD × Fin 31) : sProp 𝕄 := iprop(cellInv ER (sched m ρ) (K ck) (kcell ck) ∗ reached ER (kcell ck) 0)
instance record_persistent (ck : Dev nD × Fin 31) : BI.Persistent (record m ρ K ck) := by unfold record; infer_instance
def records : sProp 𝕄 := bigSep Finset.univ fun ck => record m ρ K ck
instance records_persistent : BI.Persistent (records m ρ K) := by unfold records; infer_instance

theorem records_at (ck : Dev nD × Fin 31) : records m ρ K ⊢ record m ρ K ck := by
  unfold records
  rw [bigSep_univ_at _ ck]
  iintro ⟨H, -⟩; iexact H

/-- What device `c` still owes. -/
def owesL (c : Dev nD) (l : List (Dev nD × Fin 31)) : sProp 𝕄 := iprop(∃ W, owes (c : Thread nD τ) (owed l) W)

/-! ## Signals and waits -/

theorem wp_sig (c n p : Dev nD) (hn : n = p) (d : Duty) (l : List (Dev nD × Fin 31)) {k' : ℕ} (hk' : k' = 1)
    {α : Type} {Q : α → sProp 𝕄} {k : PUnit → Code F α} :
    iprop(records m ρ K ∗ owesL c ((p, 0) :: l) ∗ dutyTok ER (barCell p) 0 d ∗ barPay p d)
      ⊢ iprop((owesL c l -∗ run c (k ⟨⟩) Q) -∗ run c (Prog.op (.semSignal (Dev.tc n : Thread nD τ) barS k') k) Q) := by
  subst hn hk'
  iintro ⟨#HR, Ho, Ht, Hp⟩ Hk
  unfold owesL
  icases Ho with ⟨%W, Ho⟩
  ihave #Hr := (records_at m ρ K (n, 0)) $$ HR
  unfold record
  icases Hr with ⟨#Hi, #Hm⟩
  iapply (Rounds.wp_signal 𝒱₀ ER (sched m ρ) (c : Thread nD τ) none (dst := (n : Thread nD τ)) (κ := K (n, 0))
      (d := d) (by rw [duties_bar]; exact Finset.mem_univ _) (k' := 1) rfl () (owed l) rfl) $$ [Ho Ht Hp]
  · isplitr; · iexact Hi
    isplitl [Ho]; · iexact Ho
    isplitl [Ht]; · iexact Ht
    isplitl [Hp]; · rw [payload_bar]; iexact Hp
    iexact Hm
  iintro Ho
  iapply Hk
  iexists W; iexact Ho

/-- The slots device `c` may write in group `h` of the first phase. -/
def grant (c : Dev nD) (h : Fin 4) : sProp 𝕄 :=
  bigSep Finset.univ fun k : Fin 3 => iprop(∃ X, owns (pp k c : Thread nD τ) (land k h) fullShare X)

theorem bar_pays (c : Dev nD) :
    bigSep ((sched (F := F) m ρ).duties (barCell c) 0 \ ∅) (fun d => (sched (F := F) m ρ).payload (barCell c) 0 d)
      ⊢ iprop((bigSep Finset.univ fun h : Fin 4 => grant c h) ∗ bigSep Finset.univ fun h : Fin 3 => freeCross (zp h c) h) := by
  rw [Finset.sdiff_empty, duties_bar]
  show bigSep Finset.univ (fun d : Duty => barPay (F := F) c d) ⊢ _
  rw [bigSep_univ_prod, bigSep_univ_eq_bigSepL [false, true] (by decide) (by decide), bigSepL_cons_cons, bigSepL_singleton]
  refine BIClass.sep_mono ?_ ?_
  · unfold grant
    rw [bigSep_univ_comm]
    exact BI.Entails.refl _
  · exact BI.Entails.refl _

theorem wp_bar (c : Dev nD) (l : List (Dev nD × Fin 31)) (hl : ∀ t ∈ l, 1 < rank (cellS t.2)) {k' : ℕ} (hk' : k' = 6)
    {α : Type} {Q : α → sProp 𝕄} {k : PUnit → Code F α} :
    iprop(records m ρ K ∗ levAts L lv ∗ owesL c l ∗ cred (tallyAt (barCell c) () 6) ∗ atPos ER (barCell c) 0 ∅ 0)
      ⊢ iprop(((owesL c l ∗ semVal (barCell c) 0 ∗ (bigSep Finset.univ fun h : Fin 4 => grant c h)
            ∗ bigSep Finset.univ fun h : Fin 3 => freeCross (zp h c) h) -∗ run c (k ⟨⟩) Q)
          -∗ run c (Prog.op (.semWait barS k') k) Q) := by
  subst hk'
  iintro ⟨#HR, #Hlev, Ho, Hc, Hat⟩ Hk
  unfold owesL
  icases Ho with ⟨%W, Ho⟩
  ihave #Hr := (records_at m ρ K (c, 0)) $$ HR
  unfold record
  icases Hr with ⟨#Hi, #Hm⟩
  iapply (Rounds.wp_wait_rest_token 𝒱₀ ER (sched m ρ) (c : Thread nD τ) none (κ := K (c, 0))
      (wpE_semWait_eq 𝒱₀ (c : Thread nD τ) none Set.univ) (Set.mem_univ _) () (O := owed l) (W := W) (R := 0) (m := 0) (T := ∅)
      (by rw [expect_bar])) $$ [Hc Ho Hat]
  · isplitr; · iexact Hi
    isplitl [Hc]; · iexact Hc
    isplitl [Ho]; · iexact Ho
    isplitr; · iapply (mayWait c (.reg barS) l hl); iexact Hlev
    iexact Hat
  iintro ⟨Ho, Hat, -, Hp⟩
  imod (Rounds.cell_close ER (sched m ρ) (Set.mem_univ (K (c, 0))) (fun h => h) (R := 0 + 1) (duties_later m ρ (barCell c))) $$ [Hat] with Hz
  · isplitr; · iexact Hi
    iexact Hat
  ihave Hp := (bar_pays m ρ c) $$ Hp
  icases Hp with ⟨Hg, Hx⟩
  iapply Hk
  isplitl [Ho]; · iexists _; iexact Ho
  isplitl [Hz]; · iexact Hz
  isplitl [Hg] <;> iassumption

theorem rest_dma (c : Dev nD) (q : DmaSem sig) (hq : 3 ≤ q.val) (P : sProp 𝕄) (hP : ∀ d, (sched m ρ).payload (cell c q) 0 d = P) :
    bigSep ((sched (F := F) m ρ).duties (cell c q) 0 \ ∅) (fun d => (sched (F := F) m ρ).payload (cell c q) 0 d) = P := by
  rw [Finset.sdiff_empty, duties_dma m ρ c q hq, bigSep_singleton, hP]

/-- A wait for a transfer: it brings what the transfer's semaphore hands over, and the semaphore is at zero for good. -/
theorem wp_wait (c : Dev nD) (i : Fin 31) (q : DmaSem sig) (hi : cellS i = .dma q) (hq : 3 ≤ q.val) (P : sProp 𝕄)
    (hP : ∀ d, (sched m ρ).payload (cell c q) 0 d = P)
    (l : List (Dev nD × Fin 31)) (hl : ∀ t ∈ l, rank (.dma q) < rank (cellS t.2))
    {sem : DmaSem sig} (hsem : sem = q) {sp sp' : Space} {s s' : Shape} {e e' : EltTy}
    {src : Memref sig .tc sp' s' e'} {dst : Memref sig .tc sp s e} {hsrc : src.view.WordExact} {hdst : dst.view.WordExact} (hN : dst.view.dmaCredit = N)
    {α : Type} {Q : α → sProp 𝕄} {k : PUnit → Code F α} :
    iprop(records m ρ K ∗ levAts L lv ∗ owesL c l ∗ cred (tallyAt (cell c q) () N) ∗ atPos ER (cell c q) 0 ∅ 0)
      ⊢ iprop(((owesL c l ∗ semVal (cell c q) 0 ∗ P) -∗ run c (k ⟨⟩) Q)
          -∗ run c (Prog.op (.waitDma2 sem src dst hsrc hdst) k) Q) := by
  subst hsem
  iintro ⟨#HR, #Hlev, Ho, Hc, Hat⟩ Hk
  unfold owesL
  icases Ho with ⟨%W, Ho⟩
  ihave #Hr := (records_at m ρ K (c, i)) $$ HR
  unfold record
  icases Hr with ⟨#Hi, #Hm⟩
  rw [show kcell (c, i) = cell c sem from congrArg (Prod.mk (c : Thread nD τ)) hi]
  iapply (Rounds.wp_wait_rest_token 𝒱₀ ER (sched m ρ) (c : Thread nD τ) none (κ := K (c, i))
      (wpE_waitDma2_eq 𝒱₀ (c : Thread nD τ) none Set.univ) (Set.mem_univ _) () (O := owed l) (W := W) (R := 0) (m := 0) (T := ∅)
      (by rw [Nat.zero_add, expect_dma m ρ c sem hq, hN])) $$ [Hc Ho Hat]
  · isplitr; · iexact Hi
    isplitl [Hc]; · rw [hN]; iexact Hc
    isplitl [Ho]; · iexact Ho
    isplitr; · iapply (mayWait c (.dma sem) l hl); iexact Hlev
    iexact Hat
  iintro ⟨Ho, Hat, -, Hp⟩
  imod (Rounds.cell_close ER (sched m ρ) (Set.mem_univ (K (c, i))) (fun h => h) (R := 0 + 1) (duties_later m ρ (cell c sem))) $$ [Hat] with Hz
  · isplitr; · iexact Hi
    iexact Hat
  ihave Hp := (BIBase.Entails.of_eq (rest_dma m ρ c sem hq P hP)) $$ Hp
  iapply Hk
  isplitl [Ho]; · iexists _; iexact Ho
  isplitl [Hz] <;> iassumption

/-! ## Transfers -/

/-- A block sent to device `p`: the source goes to the sender's semaphore, the slot with the block in it to the receiver's. -/
theorem wp_xfer (c n p : Dev nD) (hn : n = p) (iS iR : Fin 31) (qS qR : DmaSem sig) (hiS : cellS iS = .dma qS) (hiR : cellS iR = .dma qR)
    (hR0 : amt iR = N) (hqS : 3 ≤ qS.val) (hqR : 3 ≤ qR.val)
    {src src' dst dst' : Memref sig .tc .vmem S48x768 .bf16} (hs : src = src') (hd : dst = dst') (hN : dst'.view.dmaCredit = N)
    (X : Vec F S48x768 .bf16)
    (hpS : ∀ d, (sched m ρ).payload (cell c qS) 0 d = owns (c : Thread nD τ) src' fullShare X)
    (hpR : ∀ d, (sched m ρ).payload (cell p qR) 0 d = owns (p : Thread nD τ) dst' fullShare X)
    (l : List (Dev nD × Fin 31)) {semS semR : DmaSem sig} (hsemS : semS = qS) (hsemR : semR = qR)
    {hsc : (dst : Memref sig (Dev.tc n : Thread nD τ).2.kind .vmem S48x768 .bf16).view.ref.isScScratch = false}
    {hsrc : src.view.WordExact} {hdst : dst.view.WordExact}
    {hsem : DmaTarget.Typed .vmem (.dma semR) (.remote (Dev.tc n : Thread nD τ) (dst : Memref sig .tc .vmem S48x768 .bf16) (.dma semS) hsc)}
    {α : Type} {Q : α → sProp 𝕄} {k : PUnit → Code F α} :
    iprop(records m ρ K ∗ owesL c ((p, iR) :: l) ∗ owns (c : Thread nD τ) src' fullShare X ∗ (∃ Y, owns (p : Thread nD τ) dst' fullShare Y)
        ∗ dutyTok ER (cell c qS) 0 (false, 0) ∗ dutyTok ER (cell p qR) 0 (false, 0))
      ⊢ iprop(((owesL c l ∗ cred (tallyAt (cell c qS) () N)) -∗ run c (k ⟨⟩) Q)
          -∗ run c (Prog.op (.enqueueDma src (.remote (Dev.tc n : Thread nD τ) dst (.dma semS) hsc) (.dma semR) hsrc hdst hsem) k) Q) := by
  subst hn hs hd hsemS hsemR
  iintro ⟨#HR, Ho, Hs, ⟨%Y, Hd⟩, HtS, HtR⟩ Hk
  unfold owesL owns
  icases Ho with ⟨%W, Ho⟩
  icases Hs with ⟨%fs, %hfs, Hs⟩
  icases Hd with ⟨%fd, -, Hd⟩
  ihave #Hr := (records_at m ρ K (c, iS)) $$ HR
  ihave #Hr' := (records_at m ρ K (n, iR)) $$ HR
  unfold record
  rw [show kcell (c, iS) = cell c semS from congrArg (Prod.mk (c : Thread nD τ)) hiS,
    show kcell (n, iR) = cell n semR from congrArg (Prod.mk (n : Thread nD τ)) hiR]
  icases Hr with ⟨#HiS, #HmS⟩
  icases Hr' with ⟨#HiR, #HmR⟩
  iapply (Rounds.wp_send_pointsTo 𝒱₀ ER (sched m ρ) (c : Thread nD τ) none (κ₁ := K (c, iS)) (κ₂ := K (n, iR))
      (r₁ := 0) (r₂ := 0) (d₁ := ((false, 0) : Duty)) (d₂ := ((false, 0) : Duty)) (fs := fs) (fd := fd)
      (by rw [duties_dma m ρ c semS hqS]; exact Finset.mem_singleton_self _) (by rw [duties_dma m ρ n semR hqR]; exact Finset.mem_singleton_self _)
      () () N (show dst.view.amount (.dma semR) = N from hN) rfl rfl (owed l)
      (by show owed l + tallyAt (kcell (n, iR)) () (amt iR) = _
          rw [hR0, show kcell (n, iR) = cell n semR from congrArg (Prod.mk (n : Thread nD τ)) hiR]) (W := W)
      (by rw [hpS, ← hfs]; exact owns_intro (c : Thread nD τ) src fullShare fs)
      (by
        rw [hpR, ← hfs]
        refine BIBase.Entails.trans (owns_intro (n : Thread nD τ) dst fullShare _) ?_
        rw [View.read_write_univ])) $$ [Ho Hs Hd HtS HtR]
  · isplitr; · iexact HiS
    isplitr; · iexact HiR
    isplitl [Hs]; · iexact Hs
    isplitl [Hd]; · iexact Hd
    isplitl [Ho]; · iexact Ho
    isplitl [HtS]; · iexact HtS
    isplitr; · iexact HmS
    isplitl [HtR]; · iexact HtR
    iexact HmR
  iintro ⟨Hc, Ho⟩
  iapply Hk
  isplitl [Ho]; · iexists W; iexact Ho
  iexact Hc

/-! ## Loads and stores -/

/-- A load of a piece held by its contents. -/
theorem wp_get (c : Dev nD) {s : Shape} {e : EltTy} (M : Memref sig .tc .vmem s e) (r : Rect s) (hr : ∀ a, r.stride a = 1)
    (X : r.shape.Idx → Elt F e) {hl : M.view.LoadsAt r.toLoadRect}
    {α : Type} {Q : α → sProp 𝕄} {k : (r.shape.Idx → Elt F e) → Code F α} :
    owns (c : Thread nD τ) (M.slice r hr) fullShare X
      ⊢ iprop((owns (c : Thread nD τ) (M.slice r hr) fullShare X -∗ run c (k X) Q) -∗ run c (Prog.op (.load M r.toLoadRect hl) k) Q) := by
  unfold owns
  iintro ⟨%f, %hf, H⟩ Hk
  iapply (wp_load_rect 𝒱₀ (c : Thread nD τ) none Set.univ (m := M) (r := r) (Finset.Subset.refl _)) $$ H
  iintro H
  rw [show (M.access r).read (Elt F) f = X from hf]
  iapply Hk
  iexists f; isplitr; · (ipureintro; exact hf)
  iexact H

/-- The same through a view that drops axes of extent one: the load keeps them. -/
theorem wp_get_slot (c : Dev nD) {s t : Shape} {e : EltTy} (M : Memref sig .tc .vmem s e) (r : Rect s) (hr : ∀ a, r.stride a = 1)
    (hq : r.shape.Squeezes t) (hc : t.ShapeCasts r.shape)
    (X : t.Idx → Elt F e) {hl : M.view.LoadsAt r.toLoadRect}
    {α : Type} {Q : α → sProp 𝕄} {k : (r.shape.Idx → Elt F e) → Code F α} :
    owns (c : Thread nD τ) ((M.slice r hr).squeeze t hq) fullShare X
      ⊢ iprop((owns (c : Thread nD τ) ((M.slice r hr).squeeze t hq) fullShare X -∗ run c (k (shapeCast r.shape X hc)) Q)
          -∗ run c (Prog.op (.load M r.toLoadRect hl) k) Q) := by
  unfold owns
  iintro ⟨%f, %hf, H⟩ Hk
  iapply (wp_load_rect 𝒱₀ (c : Thread nD τ) none Set.univ (m := M) (r := r) (S := ((M.slice r hr).squeeze t hq).view.set)
    (by rw [show ((M.slice r hr).squeeze t hq).view.set = (M.access r).set from View.set_reshape (M.access r) _])) $$ H
  iintro H
  have hX : (M.access r).read (Elt F) f = shapeCast r.shape X hc := by
    rw [← hf, Memref.read_squeeze_slice M r hr hq hc.symm f, cast_cast_eq]
    rfl
  rw [hX]
  iapply Hk
  iexists f; isplitr; · (ipureintro; exact hf)
  iexact H

/-- A store over a whole slot, seen through the view that drops its axes of extent one. -/
theorem wp_put_slot (c : Dev nD) {s t : Shape} {e : EltTy} (M : Memref sig .tc .vmem s e) (r : Rect s) (hr : ∀ a, r.stride a = 1)
    (hq : r.shape.Squeezes t) (hc : r.shape.ShapeCasts t)
    (w : r.shape.Idx → Elt F e) {hx : (M.access r).Stores Finset.univ} {hm : (Finset.univ : Finset r.shape.Idx) = Finset.univ ∨ ∀ a, r.stride a = 1}
    {α : Type} {Q : α → sProp 𝕄} {k : PUnit → Code F α} :
    iprop(∃ X, owns (c : Thread nD τ) ((M.slice r hr).squeeze t hq) fullShare X)
      ⊢ iprop((owns (c : Thread nD τ) ((M.slice r hr).squeeze t hq) fullShare (shapeCast t w hc) -∗ run c (k ⟨⟩) Q)
          -∗ run c (Prog.op (.store M r w Finset.univ hx hm) k) Q) := by
  unfold owns
  iintro ⟨%X, %f, -, H⟩ Hk
  iapply (wp_store 𝒱₀ (c : Thread nD τ) none Set.univ (m := M) (r := r) (Mk := Finset.univ) (S := ((M.slice r hr).squeeze t hq).view.set)
    (by rw [show ((M.slice r hr).squeeze t hq).view.set = (M.access r).set from View.set_reshape (M.access r) _, View.setOn_univ])) $$ H
  iintro H
  iapply Hk
  iexists _; isplitr
  rotate_left; · iexact H
  ipureintro
  rw [Memref.read_squeeze_slice M r hr hq hc, show M.view.readAt (Elt F) r.toLoadRect ((M.access r).write (Elt F) f w Finset.univ) = w from
    View.read_write_univ (v := M.access r) f w]

end Cert.TwoPhase
end
-- ==== Proof.Moves.lean ====
/-
The kernel's stages: computing a group of rows, sending one of its parts, receiving one, sending a sum across
planes, receiving one and adding it to the result, and taking the sent blocks back.
-/
module

public import proofs.«01_k».proof.Proof.Steps

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 31 → ℕ)

/-! ## What a device holds for each transfer -/

/-- To send part `k` of group `h`; while it is under way; when it is over. -/
def tx1 (c : Dev nD) (k : Fin 3) (h : Fin 4) : sProp 𝕄 :=
  iprop(dutyTok ER (cell c (s1 k h)) 0 (false, 0) ∗ dutyTok ER (cell (pp k c) (r1 k h)) 0 (false, 0) ∗ atPos ER (cell c (s1 k h)) 0 ∅ 0)
def fl1 (c : Dev nD) (k : Fin 3) (h : Fin 4) : sProp 𝕄 := iprop(cred (tallyAt (cell c (s1 k h)) () N) ∗ atPos ER (cell c (s1 k h)) 0 ∅ 0)
def over1 (c : Dev nD) (k : Fin 3) (h : Fin 4) : sProp 𝕄 :=
  iprop(semVal (cell c (s1 k h)) 0 ∗ owns (c : Thread nD τ) (chunk c h k.castSucc) fullShare (part m ρ c h k.castSucc))
/-- To receive in slot `(k, h)`; when it has arrived. -/
def rx1 (c : Dev nD) (k : Fin 3) (h : Fin 4) : sProp 𝕄 := iprop(cred (tallyAt (cell c (r1 k h)) () N) ∗ atPos ER (cell c (r1 k h)) 0 ∅ 0)
def in1 (c : Dev nD) (k : Fin 3) (h : Fin 4) : sProp 𝕄 :=
  iprop(semVal (cell c (r1 k h)) 0 ∗ owns (c : Thread nD τ) (land k h) fullShare (arr m ρ c k h))
/-- The same for the second phase. -/
def tx2 (c : Dev nD) (h : Fin 3) : sProp 𝕄 :=
  iprop(dutyTok ER (cell c (s2 h)) 0 (false, 0) ∗ dutyTok ER (cell (zp h c) (r2 h)) 0 (false, 0) ∗ atPos ER (cell c (s2 h)) 0 ∅ 0)
def fl2 (c : Dev nD) (h : Fin 3) : sProp 𝕄 := iprop(cred (tallyAt (cell c (s2 h)) () N) ∗ atPos ER (cell c (s2 h)) 0 ∅ 0)
def over2 (c : Dev nD) (h : Fin 3) : sProp 𝕄 :=
  iprop(semVal (cell c (s2 h)) 0 ∗ owns (c : Thread nD τ) (summ h) fullShare (zsum m ρ c h))
def rx2 (c : Dev nD) (h : Fin 3) : sProp 𝕄 := iprop(cred (tallyAt (cell c (r2 h)) () N) ∗ atPos ER (cell c (r2 h)) 0 ∅ 0)
def in2 (c : Dev nD) (h : Fin 3) : sProp 𝕄 :=
  iprop(semVal (cell c (r2 h)) 0 ∗ owns (c : Thread nD τ) (cross h) fullShare (zarr m ρ c h))

/-- The staged arguments, and the result's buffer at contents `w`. -/
def hasA (c : Dev nD) : sProp 𝕄 := iprop(((c : Thread nD τ).loc cc0_stg0_0) ↦{fullShare} Xa m ρ c)
def hasB (c : Dev nD) : sProp 𝕄 := iprop(((c : Thread nD τ).loc cc0_stg1_0) ↦{fullShare} Xb m ρ c)
def hasO (c : Dev nD) (w : (cc0_stg2_0 : Ref sig .tc).ty.Contents (Elt F)) : sProp 𝕄 := iprop(((c : Thread nD τ).loc cc0_stg2_0) ↦{fullShare} w)

theorem hz2 : (![0, 0] : Fin 2 → Nat) = fun _ => 0 := funext fun a => by fin_cases a <;> rfl

/-- Reading and writing a buffer whole. -/
theorem read_b (inb : ∀ a, (![0, 0] : Fin 2 → Nat) a + S384x768.size a ≤ S384x768.size a) (f : (cc0_stg1_0 : Ref sig .tc).ty.Contents (Elt F)) :
    bM.view.readAt (Elt F) (Rect.unit (s := S384x768) ![0, 0] S384x768.size inb).toLoadRect f = f :=
  Memref.readAt_unit_zero (Elt F) cc0_stg1_0 hz2 inb f

theorem read_o (inb : ∀ a, (![0, 0] : Fin 2 → Nat) a + S48x768.size a ≤ S48x768.size a) (f : (cc0_stg2_0 : Ref sig .tc).ty.Contents (Elt F)) :
    oM.view.readAt (Elt F) (Rect.unit (s := S48x768) ![0, 0] S48x768.size inb).toLoadRect f = f :=
  Memref.readAt_unit_zero (Elt F) cc0_stg2_0 hz2 inb f

theorem write_o (inb : ∀ a, (![0, 0] : Fin 2 → Nat) a + S48x768.size a ≤ S48x768.size a) (f w : (cc0_stg2_0 : Ref sig .tc).ty.Contents (Elt F)) :
    (oM.access (Rect.unit (s := S48x768) ![0, 0] S48x768.size inb)).write (Elt F) f w Finset.univ = w :=
  Memref.write_access_unit_zero_univ (Elt F) cc0_stg2_0 hz2 inb f w

/-! ## A group of rows -/

theorem wp_loadB (c : Dev nD) {inb : ∀ a, (![0, 0] : Fin 2 → Nat) a + S384x768.size a ≤ S384x768.size a}
    {hl : bM.view.LoadsAt (Rect.unit (s := S384x768) ![0, 0] S384x768.size inb).toLoadRect}
    {α : Type} {Q : α → sProp 𝕄} {k : Vec F S384x768 .bf16 → Code F α} :
    hasB m ρ c ⊢ iprop((hasB m ρ c -∗ run c (k (Xb m ρ c)) Q)
      -∗ run c (Prog.op (.load bM (Rect.unit (s := S384x768) ![0, 0] S384x768.size inb).toLoadRect hl) k) Q) := by
  unfold hasB
  iintro H Hk
  iapply (wp_load 𝒱₀ (c : Thread nD τ) none Set.univ (m := bM) (Finset.subset_univ _)) $$ H
  iintro H
  rw [read_b]
  iapply Hk; iexact H

/-- Rows of `A` times `B`, stored over the group's rows: the group's four parts. -/
theorem wp_fill (c : Dev nD) (h : Fin 4) (offA offP offP' : Fin 2 → ℕ) (hA : offA = ![grpRow c h, 0]) (hP : offP = ![grpRow c h, 0]) (hP' : offP' = ![grpRow c h, 0])
    (pay : Vec F S192x384 .bf16 → Vec F S192x768 .bf16) (hpay : ∀ a, pay a = k0_pay8 (k0_pay1 (Xb m ρ c)) a)
    {inbA : ∀ a, offA a + S192x384.size a ≤ S768x384.size a} {inbP : ∀ a, offP a + S192x768.size a ≤ S768x768.size a} {inbP' : ∀ a, offP' a + S192x768.size a ≤ S768x768.size a}
    {hlA : aM.view.LoadsAt (Rect.unit (s := S768x384) offA S192x384.size inbA).toLoadRect}
    {hlP : partM.view.LoadsAt (Rect.unit (s := S768x768) offP S192x768.size inbP).toLoadRect}
    {hx : (partM.access (Rect.unit (s := S768x768) offP' S192x768.size inbP')).Stores Finset.univ}
    {hm : (Finset.univ : Finset (Rect.unit (s := S768x768) offP' S192x768.size inbP').shape.Idx) = Finset.univ ∨ ∀ a, (Rect.unit (s := S768x768) offP' S192x768.size inbP').stride a = 1}
    {α : Type} {Q : α → sProp 𝕄} {k : PUnit → Code F α} :
    iprop(hasA m ρ c ∗ freeGrp c h)
      ⊢ iprop(((hasA m ρ c ∗ bigSep Finset.univ fun j : Fin 4 => owns (c : Thread nD τ) (chunk c h j) fullShare (part m ρ c h j)) -∗ run c (k ⟨⟩) Q)
        -∗ run c (Prog.op (.load aM (Rect.unit (s := S768x384) offA S192x384.size inbA).toLoadRect hlA) fun a =>
            Prog.op (.load partM (Rect.unit (s := S768x768) offP S192x768.size inbP).toLoadRect hlP) fun _ =>
            Prog.op (.store partM (Rect.unit (s := S768x768) offP' S192x768.size inbP') (pay a) Finset.univ hx hm) k) Q) := by
  subst hA hP hP'
  unfold hasA freeGrp
  iintro ⟨HA, ⟨%f, HP⟩⟩ Hk
  iapply (wp_load 𝒱₀ (c : Thread nD τ) none Set.univ (m := aM) (Finset.subset_univ _)) $$ HA
  iintro HA
  rw [hpay]
  iapply (wp_load_rect 𝒱₀ (c : Thread nD τ) none Set.univ (m := partM) (r := grpR c h) (S := (grpR c h).set)
    (by rw [show (partM.access (grpR c h)).set = (grpR c h).set from View.set_slice_whole _ _])) $$ HP
  iintro HP
  iapply (wp_store 𝒱₀ (c : Thread nD τ) none Set.univ (m := partM) (r := grpR c h) (Mk := Finset.univ) (S := (grpR c h).set)
    (by rw [View.setOn_univ, show (partM.access (grpR c h)).set = (grpR c h).set from View.set_slice_whole _ _])) $$ HP
  iintro HP
  iapply Hk
  isplitl [HA]; · iexact HA
  iapply (grp_parts c h f (grp m ρ c h)); iexact HP

/-! ## Sending and receiving in the plane -/

theorem amt_succ (j : Fin 30) : amt (Fin.succ j) = N := if_neg (Fin.succ_ne_zero j)

/-- Where the kernel computes a part's rows, the part. -/
theorem chunk_at (c : Dev nD) (h : Fin 4) (j : Fin 4) (off : Fin 2 → ℕ) (ho : off = ![grpRow c h + subRow c j, 0])
    (inb : ∀ a, off a + S48x768.size a ≤ S768x768.size a) (hr) :
    partM.slice (Rect.unit (s := S768x768) off S48x768.size inb) hr = chunk c h j := by subst ho; rfl

theorem wp_send1 (c n : Dev nD) (k : Fin 3) (h : Fin 4) (hn : n = pp k c) (l : List (Dev nD × Fin 31))
    {src dst : Memref sig .tc .vmem S48x768 .bf16} (hs : src = chunk c h k.castSucc) (hd : dst = land k h)
    {semS semR : DmaSem sig} (hsemS : semS = s1 k h) (hsemR : semR = r1 k h)
    {hsc : (dst : Memref sig (Dev.tc n : Thread nD τ).2.kind .vmem S48x768 .bf16).view.ref.isScScratch = false}
    {hsrc : src.view.WordExact} {hdst : dst.view.WordExact}
    {hsem : DmaTarget.Typed .vmem (.dma semR) (.remote (Dev.tc n : Thread nD τ) (dst : Memref sig .tc .vmem S48x768 .bf16) (.dma semS) hsc)}
    {α : Type} {Q : α → sProp 𝕄} {k' : PUnit → Code F α} :
    iprop(records m ρ K ∗ owesL c ((pp k c, iR1 k h) :: l) ∗ owns (c : Thread nD τ) (chunk c h k.castSucc) fullShare (part m ρ c h k.castSucc)
        ∗ (∃ Y, owns (pp k c : Thread nD τ) (land k h) fullShare Y) ∗ tx1 c k h)
      ⊢ iprop(((owesL c l ∗ fl1 c k h) -∗ run c (k' ⟨⟩) Q)
          -∗ run c (Prog.op (.enqueueDma src (.remote (Dev.tc n : Thread nD τ) dst (.dma semS) hsc) (.dma semR) hsrc hdst hsem) k') Q) := by
  unfold tx1 fl1
  iintro ⟨#HR, Ho, Hs, Hd, HtS, HtR, Hat⟩ Hk
  iapply (wp_xfer m ρ K c n (pp k c) hn (iS1 k h) (iR1 k h) (s1 k h) (r1 k h) rfl rfl (amt_succ _) (s1_le k h) (r1_le k h) hs hd rfl
    (part m ρ c h k.castSucc) (fun d => payload_s1 m ρ c k h d)
    (fun d => (payload_r1 m ρ (pp k c) k h d).trans (by unfold r1Pay arr; rw [Equiv.symm_apply_apply])) l hsemS hsemR) $$ [Ho Hs Hd HtS HtR]
  · isplitr; · iexact HR
    isplitl [Ho]; · iexact Ho
    isplitl [Hs]; · iexact Hs
    isplitl [Hd]; · iexact Hd
    isplitl [HtS] <;> iassumption
  iintro ⟨Ho, Hc⟩
  iapply Hk
  isplitl [Ho]; · iexact Ho
  isplitl [Hc] <;> iassumption

theorem wp_recv1 (c : Dev nD) (k : Fin 3) (h : Fin 4) (l : List (Dev nD × Fin 31)) (hl : ∀ t ∈ l, 2 < rank (cellS t.2))
    {sem : DmaSem sig} (hsem : sem = r1 k h) {sp sp' : Space} {s s' : Shape} {e e' : EltTy}
    {src : Memref sig .tc sp' s' e'} {dst : Memref sig .tc sp s e} {hsrc : src.view.WordExact} {hdst : dst.view.WordExact} (hN : dst.view.dmaCredit = N)
    {off : Fin 4 → ℕ} (ho : off = ![k.val, h.val, 0, 0]) {inb : ∀ a, off a + S1x1x48x768.size a ≤ S3x4x48x768.size a}
    {hl' : landM.view.LoadsAt (Rect.unit (s := S3x4x48x768) off S1x1x48x768.size inb).toLoadRect}
    {α : Type} {Q : α → sProp 𝕄} {k' : Vec F S1x1x48x768 .bf16 → Code F α} :
    iprop(records m ρ K ∗ levAts L lv ∗ owesL c l ∗ rx1 c k h)
      ⊢ iprop(((owesL c l ∗ in1 m ρ c k h) -∗ run c (k' (up4 (arr m ρ c k h))) Q)
          -∗ run c (Prog.op (.waitDma2 sem src dst hsrc hdst) fun _ =>
              Prog.op (.load landM (Rect.unit (s := S3x4x48x768) off S1x1x48x768.size inb).toLoadRect hl') k') Q) := by
  subst ho
  unfold rx1 in1
  iintro ⟨#HR, #Hlev, Ho, Hc, Hat⟩ Hk
  iapply (wp_wait m ρ K c (iR1 k h) (r1 k h) rfl (r1_le k h) (r1Pay m ρ c k h) (fun d => payload_r1 m ρ c k h d) l
    (fun t ht => by rw [rank_r1]; exact hl t ht) hsem hN) $$ [Ho Hc Hat]
  · isplitr; · iexact HR
    isplitr; · iexact Hlev
    isplitl [Ho]; · iexact Ho
    isplitl [Hc] <;> iassumption
  iintro ⟨Ho, Hz, Hp⟩
  unfold r1Pay
  iapply (wp_get_slot c landM (slotR k h) (fun _ => rfl) squeezes_S1x1x48x768_S48x768 casts4 (arr m ρ c k h)) $$ Hp
  iintro Hp
  iapply Hk
  isplitl [Ho]; · iexact Ho
  isplitl [Hz] <;> iassumption

/-- The own part of a group, loaded. -/
theorem wp_own (c : Dev nD) (h : Fin 4) {off : Fin 2 → ℕ} (ho : off = ![grpRow c h + subRow c 3, 0])
    {inb : ∀ a, off a + S48x768.size a ≤ S768x768.size a}
    {hl : partM.view.LoadsAt (Rect.unit (s := S768x768) off S48x768.size inb).toLoadRect}
    {α : Type} {Q : α → sProp 𝕄} {k : Vec F S48x768 .bf16 → Code F α} :
    owns (c : Thread nD τ) (chunk c h 3) fullShare (part m ρ c h 3)
      ⊢ iprop((owns (c : Thread nD τ) (chunk c h 3) fullShare (part m ρ c h 3) -∗ run c (k (part m ρ c h 3)) Q)
        -∗ run c (Prog.op (.load partM (Rect.unit (s := S768x768) off S48x768.size inb).toLoadRect hl) k) Q) := by
  subst ho
  exact wp_get c partM (chunkR c h 3) (fun _ => rfl) (part m ρ c h 3)

/-! ## Across planes -/

/-- A sum stored in its slot and sent. -/
theorem wp_across (c n : Dev nD) (h : Fin 3) (hn : n = zp h c) (l : List (Dev nD × Fin 31))
    {w : Vec F S1x48x768 .bf16} (hw : w = planeSum (part m ρ c h.castSucc 3) (arr m ρ c 0 h.castSucc) (arr m ρ c 1 h.castSucc) (arr m ρ c 2 h.castSucc))
    {off off' : Fin 3 → ℕ} (ho : off = ![h.val, 0, 0]) (ho' : off' = ![h.val, 0, 0])
    {inb : ∀ a, off a + S1x48x768.size a ≤ S3x48x768.size a} {inb' : ∀ a, off' a + S1x48x768.size a ≤ S3x48x768.size a}
    {hl : sumM.view.LoadsAt (Rect.unit (s := S3x48x768) off S1x48x768.size inb).toLoadRect}
    {hx : (sumM.access (Rect.unit (s := S3x48x768) off' S1x48x768.size inb')).Stores Finset.univ}
    {hm : (Finset.univ : Finset (Rect.unit (s := S3x48x768) off' S1x48x768.size inb').shape.Idx) = Finset.univ ∨ ∀ a, (Rect.unit (s := S3x48x768) off' S1x48x768.size inb').stride a = 1}
    {src dst : Memref sig .tc .vmem S48x768 .bf16} (hs : src = summ h) (hd : dst = cross h)
    {semS semR : DmaSem sig} (hsemS : semS = s2 h) (hsemR : semR = r2 h)
    {hsc : (dst : Memref sig (Dev.tc n : Thread nD τ).2.kind .vmem S48x768 .bf16).view.ref.isScScratch = false}
    {hsrc : src.view.WordExact} {hdst : dst.view.WordExact}
    {hsem : DmaTarget.Typed .vmem (.dma semR) (.remote (Dev.tc n : Thread nD τ) (dst : Memref sig .tc .vmem S48x768 .bf16) (.dma semS) hsc)}
    {α : Type} {Q : α → sProp 𝕄} {k' : PUnit → Code F α} :
    iprop(records m ρ K ∗ owesL c ((zp h c, iR2 h) :: l) ∗ freeSum c h ∗ freeCross (zp h c) h ∗ tx2 c h)
      ⊢ iprop(((owesL c l ∗ fl2 c h) -∗ run c (k' ⟨⟩) Q)
          -∗ run c (Prog.op (.load sumM (Rect.unit (s := S3x48x768) off S1x48x768.size inb).toLoadRect hl) fun _ =>
              Prog.op (.store sumM (Rect.unit (s := S3x48x768) off' S1x48x768.size inb') w Finset.univ hx hm) fun _ =>
              Prog.op (.enqueueDma src (.remote (Dev.tc n : Thread nD τ) dst (.dma semS) hsc) (.dma semR) hsrc hdst hsem) k') Q) := by
  subst ho ho' hw
  unfold tx2 fl2 freeSum freeCross
  iintro ⟨#HR, Ho, ⟨%Y, Hs⟩, Hd, HtS, HtR, Hat⟩ Hk
  iapply (wp_get_slot c sumM (rowR h) (fun _ => rfl) squeezes_S1x48x768_S48x768 shapeCasts_S48x768_S1x48x768 Y) $$ Hs
  iintro Hs
  iapply (wp_put_slot c sumM (rowR h) (fun _ => rfl) squeezes_S1x48x768_S48x768 shapeCasts_S1x48x768_S48x768 _) $$ [Hs]
  · iexists Y; iexact Hs
  iintro Hs
  iapply (wp_xfer m ρ K c n (zp h c) hn (iS2 h) (iR2 h) (s2 h) (r2 h) rfl rfl (amt_succ _) (s2_le h) (r2_le h) hs hd rfl
    (zsum m ρ c h) (fun d => payload_s2 m ρ c h d)
    (fun d => (payload_r2 m ρ (zp h c) h d).trans (by unfold r2Pay zarr; rw [Equiv.symm_apply_apply])) l hsemS hsemR) $$ [Ho Hs Hd HtS HtR]
  · isplitr; · iexact HR
    isplitl [Ho]; · iexact Ho
    isplitl [Hs]; · iexact Hs
    isplitl [Hd]; · iexact Hd
    isplitl [HtS] <;> iassumption
  iintro ⟨Ho, Hc⟩
  iapply Hk
  isplitl [Ho]; · iexact Ho
  isplitl [Hc] <;> iassumption

/-- A store over the whole result. -/
theorem wp_setO (c : Dev nD) (f w : (cc0_stg2_0 : Ref sig .tc).ty.Contents (Elt F))
    {inb inb' : ∀ a, (![0, 0] : Fin 2 → Nat) a + S48x768.size a ≤ S48x768.size a}
    {hl : oM.view.LoadsAt (Rect.unit (s := S48x768) ![0, 0] S48x768.size inb).toLoadRect}
    {hx : (oM.access (Rect.unit (s := S48x768) ![0, 0] S48x768.size inb')).Stores Finset.univ}
    {hm : (Finset.univ : Finset (Rect.unit (s := S48x768) ![0, 0] S48x768.size inb').shape.Idx) = Finset.univ ∨ ∀ a, (Rect.unit (s := S48x768) ![0, 0] S48x768.size inb').stride a = 1}
    {α : Type} {Q : α → sProp 𝕄} {k : PUnit → Code F α} :
    hasO c f ⊢ iprop((hasO c w -∗ run c (k ⟨⟩) Q)
      -∗ run c (Prog.op (.load oM (Rect.unit (s := S48x768) ![0, 0] S48x768.size inb).toLoadRect hl) fun _ =>
        Prog.op (.store oM (Rect.unit (s := S48x768) ![0, 0] S48x768.size inb') w Finset.univ hx hm) k) Q) := by
  unfold hasO
  iintro H Hk
  iapply (wp_load 𝒱₀ (c : Thread nD τ) none Set.univ (m := oM) (Finset.subset_univ _)) $$ H
  iintro H
  iapply (wp_store 𝒱₀ (c : Thread nD τ) none Set.univ (m := oM) (r := Rect.unit (s := S48x768) ![0, 0] S48x768.size inb') (Mk := Finset.univ) (Finset.subset_univ _)) $$ H
  iintro H
  rw [write_o]
  iapply Hk; iexact H

/-- A sum arrives from another plane and is added to the result. -/
theorem wp_addIn (c : Dev nD) (h : Fin 3) (g : (cc0_stg2_0 : Ref sig .tc).ty.Contents (Elt F))
    (pay : Vec F S48x768 .f32 → Vec F S1x48x768 .bf16 → Vec F S48x768 .f32)
    {sem : DmaSem sig} (hsem : sem = r2 h) {sp' : Space} {s' : Shape} {e' : EltTy}
    {src : Memref sig .tc sp' s' e'} {dst : Memref sig .tc .vmem S48x768 .bf16} {hsrc : src.view.WordExact} {hdst : dst.view.WordExact} (hd : dst = cross h)
    {off : Fin 3 → ℕ} (ho : off = ![h.val, 0, 0]) {inbC : ∀ a, off a + S1x48x768.size a ≤ S3x48x768.size a}
    {hlC : crossM.view.LoadsAt (Rect.unit (s := S3x48x768) off S1x48x768.size inbC).toLoadRect}
    {inb₁ inb₂ inb₃ : ∀ a, (![0, 0] : Fin 2 → Nat) a + S48x768.size a ≤ S48x768.size a}
    {hl₁ : oM.view.LoadsAt (Rect.unit (s := S48x768) ![0, 0] S48x768.size inb₁).toLoadRect}
    {hl₂ : oM.view.LoadsAt (Rect.unit (s := S48x768) ![0, 0] S48x768.size inb₂).toLoadRect}
    {hx : (oM.access (Rect.unit (s := S48x768) ![0, 0] S48x768.size inb₃)).Stores Finset.univ}
    {hm : (Finset.univ : Finset (Rect.unit (s := S48x768) ![0, 0] S48x768.size inb₃).shape.Idx) = Finset.univ ∨ ∀ a, (Rect.unit (s := S48x768) ![0, 0] S48x768.size inb₃).stride a = 1}
    {α : Type} {Q : α → sProp 𝕄} {k : PUnit → Code F α} :
    iprop(records m ρ K ∗ levAts L lv ∗ owesL c [] ∗ rx2 c h ∗ hasO c g)
      ⊢ iprop(((owesL c [] ∗ in2 m ρ c h ∗ hasO c (pay g (up3 (zarr m ρ c h)))) -∗ run c (k ⟨⟩) Q)
          -∗ run c (Prog.op (.waitDma2 sem src dst hsrc hdst) fun _ =>
              Prog.op (.load oM (Rect.unit (s := S48x768) ![0, 0] S48x768.size inb₁).toLoadRect hl₁) fun o =>
              Prog.op (.load crossM (Rect.unit (s := S3x48x768) off S1x48x768.size inbC).toLoadRect hlC) fun r =>
              Prog.op (.load oM (Rect.unit (s := S48x768) ![0, 0] S48x768.size inb₂).toLoadRect hl₂) fun _ =>
              Prog.op (.store oM (Rect.unit (s := S48x768) ![0, 0] S48x768.size inb₃) (pay o r) Finset.univ hx hm) k) Q) := by
  subst ho
  unfold rx2 in2
  iintro ⟨#HR, #Hlev, Ho, ⟨Hc, Hat⟩, HO⟩ Hk
  iapply (wp_wait m ρ K c (iR2 h) (r2 h) rfl (r2_le h) (r2Pay m ρ c h) (fun d => payload_r2 m ρ c h d) []
    (fun t ht => absurd ht List.not_mem_nil) hsem (by rw [hd])) $$ [Ho Hc Hat]
  · isplitr; · iexact HR
    isplitr; · iexact Hlev
    isplitl [Ho]; · iexact Ho
    isplitl [Hc] <;> iassumption
  iintro ⟨Ho, Hz, Hp⟩
  unfold r2Pay hasO
  iapply (wp_load 𝒱₀ (c : Thread nD τ) none Set.univ (m := oM) (Finset.subset_univ _)) $$ HO
  iintro HO
  rw [read_o]
  iapply (wp_get_slot c crossM (rowR h) (fun _ => rfl) squeezes_S1x48x768_S48x768 shapeCasts_S48x768_S1x48x768 (zarr m ρ c h)) $$ Hp
  iintro Hp
  iapply (wp_load 𝒱₀ (c : Thread nD τ) none Set.univ (m := oM) (Finset.subset_univ _)) $$ HO
  iintro HO
  iapply (wp_store 𝒱₀ (c : Thread nD τ) none Set.univ (m := oM) (r := Rect.unit (s := S48x768) ![0, 0] S48x768.size inb₃) (Mk := Finset.univ) (Finset.subset_univ _)) $$ HO
  iintro HO
  rw [write_o]
  iapply Hk
  isplitl [Ho]; · iexact Ho
  isplitl [Hz Hp]
  · isplitl [Hz] <;> iassumption
  iexact HO

/-! ## Taking the sent blocks back -/

theorem wp_back1 (c : Dev nD) (k : Fin 3) (h : Fin 4)
    {sem : DmaSem sig} (hsem : sem = s1 k h) {sp sp' : Space} {s s' : Shape} {e e' : EltTy}
    {src : Memref sig .tc sp' s' e'} {dst : Memref sig .tc sp s e} {hsrc : src.view.WordExact} {hdst : dst.view.WordExact} (hN : dst.view.dmaCredit = N)
    {α : Type} {Q : α → sProp 𝕄} {k' : PUnit → Code F α} :
    iprop(records m ρ K ∗ levAts L lv ∗ owesL c [] ∗ fl1 c k h)
      ⊢ iprop(((owesL c [] ∗ over1 m ρ c k h) -∗ run c (k' ⟨⟩) Q) -∗ run c (Prog.op (.waitDma2 sem src dst hsrc hdst) k') Q) := by
  unfold fl1 over1
  iintro ⟨#HR, #Hlev, Ho, Hc, Hat⟩ Hk
  iapply (wp_wait m ρ K c (iS1 k h) (s1 k h) rfl (s1_le k h) (s1Pay m ρ c k h) (fun d => payload_s1 m ρ c k h d) []
    (fun t ht => absurd ht List.not_mem_nil) hsem hN) $$ [Ho Hc Hat]
  · isplitr; · iexact HR
    isplitr; · iexact Hlev
    isplitl [Ho]; · iexact Ho
    isplitl [Hc] <;> iassumption
  iintro ⟨Ho, Hz, Hp⟩
  unfold s1Pay
  iapply Hk
  isplitl [Ho]; · iexact Ho
  isplitl [Hz] <;> iassumption

theorem wp_back2 (c : Dev nD) (h : Fin 3)
    {sem : DmaSem sig} (hsem : sem = s2 h) {sp' : Space} {s' : Shape} {e' : EltTy}
    {src : Memref sig .tc sp' s' e'} {dst : Memref sig .tc .vmem S48x768 .bf16} {hsrc : src.view.WordExact} {hdst : dst.view.WordExact} (hd : dst = summ h)
    {α : Type} {Q : α → sProp 𝕄} {k' : PUnit → Code F α} :
    iprop(records m ρ K ∗ levAts L lv ∗ owesL c [] ∗ fl2 c h)
      ⊢ iprop(((owesL c [] ∗ over2 m ρ c h) -∗ run c (k' ⟨⟩) Q) -∗ run c (Prog.op (.waitDma2 sem src dst hsrc hdst) k') Q) := by
  unfold fl2 over2
  iintro ⟨#HR, #Hlev, Ho, Hc, Hat⟩ Hk
  iapply (wp_wait m ρ K c (iS2 h) (s2 h) rfl (s2_le h) (s2Pay m ρ c h) (fun d => payload_s2 m ρ c h d) []
    (fun t ht => absurd ht List.not_mem_nil) hsem (by rw [hd])) $$ [Ho Hc Hat]
  · isplitr; · iexact HR
    isplitr; · iexact Hlev
    isplitl [Ho]; · iexact Ho
    isplitl [Hc] <;> iassumption
  iintro ⟨Ho, Hz, Hp⟩
  unfold s2Pay
  iapply Hk
  isplitl [Ho]; · iexact Ho
  isplitl [Hz] <;> iassumption

end Cert.TwoPhase
end
-- ==== Proof.Groups.lean ====
/-
One group of rows at a time: its three parts sent, its three parts from the plane received, its three sent parts
taken back.
-/
module

public import proofs.«01_k».proof.Proof.Moves

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 31 → ℕ)

/-- A send to the chip `n`, then `k`. -/
abbrev sendTo (n : Dev nD) (src dst : Memref sig .tc .vmem S48x768 .bf16) (semS semR : DmaSem sig)
    (hsc : (dst : Memref sig (Dev.tc n : Thread nD τ).2.kind .vmem S48x768 .bf16).view.ref.isScScratch = false)
    (hsrc : src.view.WordExact) (hdst : dst.view.WordExact)
    (hsem : DmaTarget.Typed (p := Proc.tc) .vmem (.dma semR) (.remote (Dev.tc n : Thread nD τ) (dst : Memref sig .tc .vmem S48x768 .bf16) (.dma semS) hsc))
    {α : Type} (k : PUnit → Code F α) : Code F α :=
  Prog.op (.enqueueDma src (.remote (Dev.tc n : Thread nD τ) dst (.dma semS) hsc) (.dma semR) hsrc hdst hsem) k

/-- The three parts of group `h` for the devices of the plane. -/
theorem wp_sends (c : Dev nD) (h : Fin 4) (l : List (Dev nD × Fin 31))
    {n₀ n₁ n₂ : Dev nD} (hn : n₀ = pp 0 c ∧ n₁ = pp 1 c ∧ n₂ = pp 2 c)
    {x₀ x₁ x₂ y₀ y₁ y₂ : Memref sig .tc .vmem S48x768 .bf16}
    (hx : x₀ = chunk c h 0 ∧ x₁ = chunk c h 1 ∧ x₂ = chunk c h 2) (hy : y₀ = land 0 h ∧ y₁ = land 1 h ∧ y₂ = land 2 h)
    {a₀ a₁ a₂ b₀ b₁ b₂ : DmaSem sig} (ha : a₀ = s1 0 h ∧ a₁ = s1 1 h ∧ a₂ = s1 2 h) (hb : b₀ = r1 0 h ∧ b₁ = r1 1 h ∧ b₂ = r1 2 h)
    {p₀ q₀ r₀ t₀ p₁ q₁ r₁ t₁ p₂ q₂ r₂ t₂} {α : Type} {Q : α → sProp 𝕄} {k : PUnit → Code F α} :
    iprop(records m ρ K ∗ owesL c (plane1 c h ++ l) ∗ (bigSep Finset.univ fun j : Fin 4 => owns (c : Thread nD τ) (chunk c h j) fullShare (part m ρ c h j))
        ∗ grant c h ∗ bigSep Finset.univ fun k : Fin 3 => tx1 (F := F) c k h)
      ⊢ iprop(((owesL c l ∗ owns (c : Thread nD τ) (chunk c h 3) fullShare (part m ρ c h 3) ∗ bigSep Finset.univ fun k : Fin 3 => fl1 c k h) -∗ run c (k ⟨⟩) Q)
          -∗ run c (sendTo n₀ x₀ y₀ a₀ b₀ p₀ q₀ r₀ t₀ fun _ => sendTo n₁ x₁ y₁ a₁ b₁ p₁ q₁ r₁ t₁ fun _ => sendTo n₂ x₂ y₂ a₂ b₂ p₂ q₂ r₂ t₂ k) Q) := by
  unfold grant plane1
  rw [bigSep4, bigSep3, bigSep3, bigSep3, List.cons_append, List.cons_append, List.cons_append, List.nil_append]
  iintro ⟨#HR, Ho, ⟨Hc0, Hc1, Hc2, Hc3⟩, ⟨Hd0, Hd1, Hd2⟩, Ht0, Ht1, Ht2⟩ Hk
  iapply (wp_send1 m ρ K c n₀ 0 h hn.1 _ hx.1 hy.1 ha.1 hb.1) $$ [Ho Hc0 Hd0 Ht0]
  · isplitr; · iexact HR
    isplitl [Ho]; · iexact Ho
    isplitl [Hc0]; · iexact Hc0
    isplitl [Hd0] <;> iassumption
  iintro ⟨Ho, Hf0⟩
  iapply (wp_send1 m ρ K c n₁ 1 h hn.2.1 _ hx.2.1 hy.2.1 ha.2.1 hb.2.1) $$ [Ho Hc1 Hd1 Ht1]
  · isplitr; · iexact HR
    isplitl [Ho]; · iexact Ho
    isplitl [Hc1]; · iexact Hc1
    isplitl [Hd1] <;> iassumption
  iintro ⟨Ho, Hf1⟩
  iapply (wp_send1 m ρ K c n₂ 2 h hn.2.2 _ hx.2.2 hy.2.2 ha.2.2 hb.2.2) $$ [Ho Hc2 Hd2 Ht2]
  · isplitr; · iexact HR
    isplitl [Ho]; · iexact Ho
    isplitl [Hc2]; · iexact Hc2
    isplitl [Hd2] <;> iassumption
  iintro ⟨Ho, Hf2⟩
  iapply Hk
  isplitl [Ho]; · iexact Ho
  isplitl [Hc3]; · iexact Hc3
  isplitl [Hf0]; · iexact Hf0
  isplitl [Hf1] <;> iassumption

/-- A wait for a transfer, then `k`. -/
abbrev awaitOn (sem : DmaSem sig) {sp sp' : Space} {s s' : Shape} {e e' : EltTy} (src : Memref sig .tc sp' s' e') (dst : Memref sig .tc sp s e)
    (hsrc : src.view.WordExact) (hdst : dst.view.WordExact) {α : Type} (k : PUnit → Code F α) : Code F α :=
  Prog.op (.waitDma2 sem src dst hsrc hdst) k

/-- A load of one slot of the landing buffer, then `k`. -/
abbrev loadSlot (off : Fin 4 → ℕ) (inb : ∀ a, off a + S1x1x48x768.size a ≤ S3x4x48x768.size a)
    (hl : landM.view.LoadsAt (Rect.unit (s := S3x4x48x768) off S1x1x48x768.size inb).toLoadRect) {α : Type} (k : Vec F S1x1x48x768 .bf16 → Code F α) : Code F α :=
  Prog.op (.load landM (Rect.unit (s := S3x4x48x768) off S1x1x48x768.size inb).toLoadRect hl) k

/-- The own part of group `h` and the three that arrive from the plane. -/
theorem wp_collect (c : Dev nD) (h : Fin 4) (l : List (Dev nD × Fin 31)) (hl : ∀ t ∈ l, 2 < rank (cellS t.2))
    {off : Fin 2 → ℕ} (ho : off = ![grpRow c h + subRow c 3, 0]) {inb : ∀ a, off a + S48x768.size a ≤ S768x768.size a}
    {hlo : partM.view.LoadsAt (Rect.unit (s := S768x768) off S48x768.size inb).toLoadRect}
    {b₀ b₁ b₂ : DmaSem sig} (hb : b₀ = r1 0 h ∧ b₁ = r1 1 h ∧ b₂ = r1 2 h)
    {x₀ x₁ x₂ y₀ y₁ y₂ : Memref sig .tc .vmem S48x768 .bf16} (hy : y₀ = land 0 h ∧ y₁ = land 1 h ∧ y₂ = land 2 h)
    {o₀ o₁ o₂ : Fin 4 → ℕ} (hoff : o₀ = ![0, h.val, 0, 0] ∧ o₁ = ![1, h.val, 0, 0] ∧ o₂ = ![2, h.val, 0, 0])
    {p₀ q₀ r₀ t₀ p₁ q₁ r₁ t₁ p₂ q₂ r₂ t₂} {α : Type} {Q : α → sProp 𝕄} {k : Vec F S48x768 .bf16 → Vec F S1x1x48x768 .bf16 → Vec F S1x1x48x768 .bf16 → Vec F S1x1x48x768 .bf16 → Code F α} :
    iprop(records m ρ K ∗ levAts L lv ∗ owesL c l ∗ owns (c : Thread nD τ) (chunk c h 3) fullShare (part m ρ c h 3) ∗ bigSep Finset.univ fun k : Fin 3 => rx1 (F := F) c k h)
      ⊢ iprop(((owesL c l ∗ owns (c : Thread nD τ) (chunk c h 3) fullShare (part m ρ c h 3) ∗ bigSep Finset.univ fun k : Fin 3 => in1 m ρ c k h)
            -∗ run c (k (part m ρ c h 3) (up4 (arr m ρ c 0 h)) (up4 (arr m ρ c 1 h)) (up4 (arr m ρ c 2 h))) Q)
          -∗ run c (Prog.op (.load partM (Rect.unit (s := S768x768) off S48x768.size inb).toLoadRect hlo) fun o =>
              awaitOn b₀ x₀ y₀ p₀ q₀ fun _ => loadSlot o₀ r₀ t₀ fun x =>
              awaitOn b₁ x₁ y₁ p₁ q₁ fun _ => loadSlot o₁ r₁ t₁ fun y =>
              awaitOn b₂ x₂ y₂ p₂ q₂ fun _ => loadSlot o₂ r₂ t₂ fun z => k o x y z) Q) := by
  rw [bigSep3, bigSep3]
  iintro ⟨#HR, #Hlev, Ho, Hc, Hr0, Hr1, Hr2⟩ Hk
  iapply (wp_own m ρ c h ho) $$ Hc
  iintro Hc
  iapply (wp_recv1 m ρ K c 0 h l hl hb.1 (by rw [hy.1]) hoff.1) $$ [Ho Hr0]
  · isplitr; · iexact HR
    isplitr; · iexact Hlev
    isplitl [Ho] <;> iassumption
  iintro ⟨Ho, Hi0⟩
  iapply (wp_recv1 m ρ K c 1 h l hl hb.2.1 (by rw [hy.2.1]) hoff.2.1) $$ [Ho Hr1]
  · isplitr; · iexact HR
    isplitr; · iexact Hlev
    isplitl [Ho] <;> iassumption
  iintro ⟨Ho, Hi1⟩
  iapply (wp_recv1 m ρ K c 2 h l hl hb.2.2 (by rw [hy.2.2]) hoff.2.2) $$ [Ho Hr2]
  · isplitr; · iexact HR
    isplitr; · iexact Hlev
    isplitl [Ho] <;> iassumption
  iintro ⟨Ho, Hi2⟩
  iapply Hk
  isplitl [Ho]; · iexact Ho
  isplitl [Hc]; · iexact Hc
  isplitl [Hi0]; · iexact Hi0
  isplitl [Hi1] <;> iassumption

/-- The three sent parts of group `h`, taken back. -/
theorem wp_takeback (c : Dev nD) (h : Fin 4)
    {a₀ a₁ a₂ : DmaSem sig} (ha : a₀ = s1 0 h ∧ a₁ = s1 1 h ∧ a₂ = s1 2 h)
    {x₀ x₁ x₂ y₀ y₁ y₂ : Memref sig .tc .vmem S48x768 .bf16} (hy : y₀ = chunk c h 0 ∧ y₁ = chunk c h 1 ∧ y₂ = chunk c h 2)
    {p₀ q₀ p₁ q₁ p₂ q₂} {α : Type} {Q : α → sProp 𝕄} {k : PUnit → Code F α} :
    iprop(records m ρ K ∗ levAts L lv ∗ owesL c [] ∗ bigSep Finset.univ fun k : Fin 3 => fl1 (F := F) c k h)
      ⊢ iprop(((owesL c [] ∗ bigSep Finset.univ fun k : Fin 3 => over1 m ρ c k h) -∗ run c (k ⟨⟩) Q)
          -∗ run c (awaitOn a₀ x₀ y₀ p₀ q₀ fun _ => awaitOn a₁ x₁ y₁ p₁ q₁ fun _ => awaitOn a₂ x₂ y₂ p₂ q₂ k) Q) := by
  rw [bigSep3, bigSep3]
  iintro ⟨#HR, #Hlev, Ho, Hf0, Hf1, Hf2⟩ Hk
  iapply (wp_back1 m ρ K c 0 h ha.1 (by rw [hy.1])) $$ [Ho Hf0]
  · isplitr; · iexact HR
    isplitr; · iexact Hlev
    isplitl [Ho] <;> iassumption
  iintro ⟨Ho, Hf0⟩
  iapply (wp_back1 m ρ K c 1 h ha.2.1 (by rw [hy.2.1])) $$ [Ho Hf1]
  · isplitr; · iexact HR
    isplitr; · iexact Hlev
    isplitl [Ho] <;> iassumption
  iintro ⟨Ho, Hf1⟩
  iapply (wp_back1 m ρ K c 2 h ha.2.2 (by rw [hy.2.2])) $$ [Ho Hf2]
  · isplitr; · iexact HR
    isplitr; · iexact Hlev
    isplitl [Ho] <;> iassumption
  iintro ⟨Ho, Hf2⟩
  iapply Hk
  isplitl [Ho]; · iexact Ho
  isplitl [Hf0]; · iexact Hf0
  isplitl [Hf1] <;> iassumption

end Cert.TwoPhase
end
-- ==== Proof.Body.lean ====
/-
One device's program: the barrier with its six peers, four groups of rows computed and sent, four collected, three
sums sent across planes, three received, the sent blocks taken back.
-/
module

public import proofs.«01_k».proof.Proof.Groups

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 31 → ℕ)

/-! ## What the body starts and ends with -/

/-- The tokens of the six units the device pays at the start. -/
def dues (c : Dev nD) : sProp 𝕄 :=
  iprop((bigSep Finset.univ fun k : Fin 3 => dutyTok ER (barCell (pp k c)) 0 ((false, back k) : Duty))
    ∗ bigSep Finset.univ fun h : Fin 3 => dutyTok ER (barCell (zp h c)) 0 ((true, back h) : Duty))

/-- Everything it needs for its transfers. -/
def rights (c : Dev nD) : sProp 𝕄 :=
  iprop(dues (F := F) c ∗ (cred (tallyAt (barCell c) () 6) ∗ atPos ER (barCell c) 0 ∅ 0)
    ∗ (bigSep Finset.univ fun h : Fin 4 => bigSep Finset.univ fun k : Fin 3 => tx1 (F := F) c k h)
    ∗ (bigSep Finset.univ fun h : Fin 4 => bigSep Finset.univ fun k : Fin 3 => rx1 (F := F) c k h)
    ∗ (bigSep Finset.univ fun h : Fin 3 => tx2 (F := F) c h)
    ∗ bigSep Finset.univ fun h : Fin 3 => rx2 (F := F) c h)

/-- Its scratch buffers, with anything in them. -/
def scratch (c : Dev nD) : sProp 𝕄 :=
  iprop(anyBuf (F := F) c cc0_scratch0 ∗ anyBuf (F := F) c cc0_scratch1 ∗ anyBuf (F := F) c cc0_scratch2 ∗ anyBuf (F := F) c cc0_scratch3)

/-- Its semaphores, all at zero. -/
def quiet (c : Dev nD) : sProp 𝕄 :=
  iprop(semVal (barCell c) 0
    ∗ (bigSep Finset.univ fun h : Fin 4 => bigSep Finset.univ fun k : Fin 3 => semVal (cell c (s1 k h)) 0)
    ∗ (bigSep Finset.univ fun h : Fin 4 => bigSep Finset.univ fun k : Fin 3 => semVal (cell c (r1 k h)) 0)
    ∗ (bigSep Finset.univ fun h : Fin 3 => semVal (cell c (s2 h)) 0)
    ∗ bigSep Finset.univ fun h : Fin 3 => semVal (cell c (r2 h)) 0)

/-! ## The six signals -/

/-- A device's landing slots for step `back k` are what its `k`-th signal hands over. -/
theorem pays_plane (c : Dev nD) (k : Fin 3) : freeLand c (back k) ⊢ (barPay (pp k c) ((false, back k) : Duty) : sProp 𝕄) := by
  refine BIBase.Entails.of_eq ?_
  unfold barPay
  rw [if_neg Bool.false_ne_true]
  exact (congrArg (fun p => freeLand (F := F) p (back k)) (pp_back k c)).symm
theorem pays_cross (c : Dev nD) (h : Fin 3) : freeCross c (back h) ⊢ (barPay (zp h c) ((true, back h) : Duty) : sProp 𝕄) := by
  refine BIBase.Entails.of_eq ?_
  unfold barPay
  rw [if_pos rfl]
  exact (congrArg (fun p => freeCross (F := F) p (back h)) (zp_back h c)).symm

/-- A signal to the device `n`, then `k`. -/
abbrev signalTo (n : Dev nD) (k' : ℕ) {α : Type} (k : PUnit → Code F α) : Code F α := Prog.op (.semSignal (Dev.tc n : Thread nD τ) barS k') k

theorem wp_greet (c : Dev nD) {n₁ n₂ n₃ n₄ n₅ n₆ : Dev nD}
    (hn : (n₁ = pp 0 c ∧ n₃ = pp 1 c ∧ n₅ = pp 2 c) ∧ n₂ = zp 0 c ∧ n₄ = zp 1 c ∧ n₆ = zp 2 c)
    {k₁ k₂ k₃ k₄ k₅ k₆ : ℕ} (hk : (k₁ = 1 ∧ k₂ = 1 ∧ k₃ = 1) ∧ k₄ = 1 ∧ k₅ = 1 ∧ k₆ = 1)
    {α : Type} {Q : α → sProp 𝕄} {k : PUnit → Code F α} :
    iprop(records m ρ K ∗ owesL c (debts c) ∗ dues (F := F) c ∗ (bigSep Finset.univ fun k : Fin 3 => freeLand (F := F) c k) ∗ bigSep Finset.univ fun h : Fin 3 => freeCross (F := F) c h)
      ⊢ iprop((owesL c (xfers c) -∗ run c (k ⟨⟩) Q)
          -∗ run c (signalTo n₁ k₁ fun _ => signalTo n₂ k₂ fun _ => signalTo n₃ k₃ fun _ => signalTo n₄ k₄ fun _ => signalTo n₅ k₅ fun _ => signalTo n₆ k₆ k) Q) := by
  unfold dues debts
  rw [bigSep3, bigSep3, bigSep3, bigSep3]
  iintro ⟨#HR, Ho, ⟨⟨Ht0, Ht1, Ht2⟩, Hu0, Hu1, Hu2⟩, ⟨Hl0, Hl1, Hl2⟩, Hc0, Hc1, Hc2⟩ Hk
  ihave Hl0 := (show freeLand c 0 ⊢ _ from pays_plane c 2) $$ Hl0
  ihave Hl1 := (show freeLand c 1 ⊢ _ from pays_plane c 1) $$ Hl1
  ihave Hl2 := (show freeLand c 2 ⊢ _ from pays_plane c 0) $$ Hl2
  ihave Hc0 := (show freeCross c 0 ⊢ _ from pays_cross c 2) $$ Hc0
  ihave Hc1 := (show freeCross c 1 ⊢ _ from pays_cross c 1) $$ Hc1
  ihave Hc2 := (show freeCross c 2 ⊢ _ from pays_cross c 0) $$ Hc2
  iapply (wp_sig m ρ K c n₁ _ hn.1.1 (false, back 0) _ hk.1.1) $$ [Ho Ht0 Hl2]
  · isplitr; · iexact HR
    isplitl [Ho]; · iexact Ho
    isplitl [Ht0] <;> iassumption
  iintro Ho
  iapply (wp_sig m ρ K c n₂ _ hn.2.1 (true, back 0) _ hk.1.2.1) $$ [Ho Hu0 Hc2]
  · isplitr; · iexact HR
    isplitl [Ho]; · iexact Ho
    isplitl [Hu0] <;> iassumption
  iintro Ho
  iapply (wp_sig m ρ K c n₃ _ hn.1.2.1 (false, back 1) _ hk.1.2.2) $$ [Ho Ht1 Hl1]
  · isplitr; · iexact HR
    isplitl [Ho]; · iexact Ho
    isplitl [Ht1] <;> iassumption
  iintro Ho
  iapply (wp_sig m ρ K c n₄ _ hn.2.2.1 (true, back 1) _ hk.2.1) $$ [Ho Hu1 Hc1]
  · isplitr; · iexact HR
    isplitl [Ho]; · iexact Ho
    isplitl [Hu1] <;> iassumption
  iintro Ho
  iapply (wp_sig m ρ K c n₅ _ hn.1.2.2 (false, back 2) _ hk.2.2.1) $$ [Ho Ht2 Hl0]
  · isplitr; · iexact HR
    isplitl [Ho]; · iexact Ho
    isplitl [Ht2] <;> iassumption
  iintro Ho
  iapply (wp_sig m ρ K c n₆ _ hn.2.2.2 (true, back 2) _ hk.2.2.2) $$ [Ho Hu2 Hc0]
  · isplitr; · iexact HR
    isplitl [Ho]; · iexact Ho
    isplitl [Hu2] <;> iassumption
  iintro Ho
  iapply Hk; iexact Ho

/-! ## The end: buffers whole again, semaphores at zero -/

theorem split_in1 (c : Dev nD) :
    (bigSep Finset.univ fun h : Fin 4 => bigSep Finset.univ fun k : Fin 3 => in1 m ρ c k h)
      ⊢ iprop((bigSep Finset.univ fun h : Fin 4 => bigSep Finset.univ fun k : Fin 3 => semVal (cell c (r1 k h)) 0) ∗ anyBuf (F := F) c cc0_scratch2) := by
  unfold in1
  simp only [bigSep_sep']
  iintro ⟨Hz, Hb⟩
  isplitl [Hz]; · iexact Hz
  iapply (BIBase.Entails.trans (BIBase.Entails.of_eq (BI.bigSep_univ_comm _)) (land_join c (arr m ρ c))); iexact Hb

theorem assoc_eq (P Q R : sProp 𝕄) : iprop((P ∗ Q) ∗ R) = iprop(P ∗ Q ∗ R) := equiv_iff.mp ⟨BI.sep_assoc, BI.sep_assoc'⟩

theorem split_over1 (c : Dev nD) :
    iprop((bigSep Finset.univ fun h : Fin 4 => bigSep Finset.univ fun k : Fin 3 => over1 m ρ c k h)
        ∗ bigSep Finset.univ fun h : Fin 4 => owns (c : Thread nD τ) (chunk c h 3) fullShare (part m ρ c h 3))
      ⊢ iprop((bigSep Finset.univ fun h : Fin 4 => bigSep Finset.univ fun k : Fin 3 => semVal (cell c (s1 k h)) 0) ∗ anyBuf (F := F) c cc0_scratch0) := by
  unfold over1
  simp only [bigSep_sep']
  iintro ⟨⟨Hz, Hb⟩, Hc⟩
  isplitl [Hz]; · iexact Hz
  iapply (part_join c (part m ρ c))
  have hj : ∀ h : Fin 4, (bigSep Finset.univ fun j : Fin 4 => (owns (c : Thread nD τ) (chunk c h j) fullShare (part m ρ c h j) : sProp 𝕄))
      = iprop((bigSep Finset.univ fun k : Fin 3 => owns (c : Thread nD τ) (chunk c h k.castSucc) fullShare (part m ρ c h k.castSucc))
          ∗ owns (c : Thread nD τ) (chunk c h 3) fullShare (part m ρ c h 3)) := fun h => by
    rw [bigSep4, bigSep3, assoc_eq, assoc_eq]; rfl
  iapply (BIBase.Entails.of_eq (show iprop((bigSep Finset.univ fun h : Fin 4 => bigSep Finset.univ fun k : Fin 3 =>
        (owns (c : Thread nD τ) (chunk c h k.castSucc) fullShare (part m ρ c h k.castSucc) : sProp 𝕄))
        ∗ bigSep Finset.univ fun h : Fin 4 => owns (c : Thread nD τ) (chunk c h 3) fullShare (part m ρ c h 3))
      = (bigSep Finset.univ fun h : Fin 4 => bigSep Finset.univ fun j : Fin 4 =>
      (owns (c : Thread nD τ) (chunk c h j) fullShare (part m ρ c h j) : sProp 𝕄)) by simp only [hj, bigSep_sep'])) $$ [Hb Hc]
  isplitl [Hb] <;> iassumption

theorem split_in2 (c : Dev nD) :
    (bigSep Finset.univ fun h : Fin 3 => in2 m ρ c h)
      ⊢ iprop((bigSep Finset.univ fun h : Fin 3 => semVal (cell c (r2 h)) 0) ∗ anyBuf (F := F) c cc0_scratch3) := by
  unfold in2
  simp only [bigSep_sep']
  iintro ⟨Hz, Hb⟩
  isplitl [Hz]; · iexact Hz
  iapply (cross_join c (zarr m ρ c)); iexact Hb

theorem split_over2 (c : Dev nD) :
    (bigSep Finset.univ fun h : Fin 3 => over2 m ρ c h)
      ⊢ iprop((bigSep Finset.univ fun h : Fin 3 => semVal (cell c (s2 h)) 0) ∗ anyBuf (F := F) c cc0_scratch1) := by
  unfold over2
  simp only [bigSep_sep']
  iintro ⟨Hz, Hb⟩
  isplitl [Hz]; · iexact Hz
  iapply (sum_join c (zsum m ρ c)); iexact Hb

/-! ## The body -/

/-- What is still to be paid from step `h` of the second phase on comes after every arrival of the first. -/
theorem cross_rank (c : Dev nD) : ∀ t ∈ cross2 c, 2 < rank (cellS t.2) := by unfold cross2; decide +revert
theorem xfers_rank (c : Dev nD) : ∀ t ∈ xfers c, 1 < rank (cellS t.2) := by unfold xfers plane1 cross2; decide +revert

/-- The body as the launch calls it. -/
abbrev theBody (c : Dev nD) (Q : PUnit → sProp 𝕄) : sProp 𝕄 :=
  run c (cc0_body aM (Memref.isWhole_whole _) bM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7) Q

set_option maxHeartbeats 8000000 in
theorem body_run (c : Dev nD) (f : (cc0_stg2_0 : Ref sig .tc).ty.Contents (Elt F)) (Q : PUnit → sProp 𝕄) :
    iprop(records m ρ K ∗ levAts L lv ∗ owesL c (debts c) ∗ rights (F := F) c ∗ scratch (F := F) c ∗ hasA m ρ c ∗ hasB m ρ c ∗ hasO c f)
      ⊢ iprop(((owesL c [] ∗ quiet (F := F) c ∗ scratch (F := F) c ∗ hasA m ρ c ∗ hasB m ρ c ∗ hasO c (outAt m ρ c)) -∗ Q ⟨⟩) -∗ theBody c Q) := by
  unfold theBody rights scratch anyBuf
  iintro ⟨#HR, #Hlev, Ho, ⟨Hdue, ⟨Hcb, Hab⟩, Htx, Hrx, Htx2, Hrx2⟩, ⟨⟨%f0, Hs0⟩, ⟨%f1, Hs1⟩, ⟨%f2, Hs2⟩, ⟨%f3, Hs3⟩⟩, HA, HB, HO⟩ Hk
  ihave Hs0 := (part_split c f0) $$ Hs0
  ihave Hs1 := (sum_split c f1) $$ Hs1
  ihave Hs2 := (land_split c f2) $$ Hs2
  ihave Hs3 := (cross_split c f3) $$ Hs3
  ihave Hs0 := (BIBase.Entails.of_eq (bigSep4 _)) $$ Hs0
  ihave Hs1 := (BIBase.Entails.of_eq (bigSep3 _)) $$ Hs1
  ihave Htx := (BIBase.Entails.of_eq (bigSep4 _)) $$ Htx
  ihave Hrx := (BIBase.Entails.of_eq (bigSep4 _)) $$ Hrx
  ihave Htx2 := (BIBase.Entails.of_eq (bigSep3 _)) $$ Htx2
  ihave Hrx2 := (BIBase.Entails.of_eq (bigSep3 _)) $$ Hrx2
  icases Hs0 with ⟨Hg0, Hg1, Hg2, Hg3⟩
  icases Hs1 with ⟨Hu0, Hu1, Hu2⟩
  icases Htx with ⟨Htx10, Htx11, Htx12, Htx13⟩
  icases Hrx with ⟨Hrx10, Hrx11, Hrx12, Hrx13⟩
  icases Htx2 with ⟨Htx20, Htx21, Htx22⟩
  icases Hrx2 with ⟨Hrx20, Hrx21, Hrx22⟩
  unfold run
  simp only [cc0_body_eq_skeleton]; unfold cc0_body_skel
  simp only [k0_part24_eq_skeleton]; unfold k0_part24_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel k0_part16_skel
    k0_part17_skel k0_part18_skel k0_part19_skel k0_part20_skel k0_part21_skel k0_part22_skel k0_part23_skel
  simp only [semSignalWord, semWaitWord, Prog.lift, Prog.bind_op, Prog.bind_ret, Prog.pure_eq_ret, wp_deviceId]
  iapply (wp_greet m ρ K c (signal_to c) ⟨⟨rfl, rfl, rfl⟩, rfl, rfl, rfl⟩) $$ [Ho Hdue Hs2 Hs3]
  · isplitr; · iexact HR
    isplitl [Ho]; · iexact Ho
    isplitl [Hdue]; · iexact Hdue
    isplitl [Hs2] <;> iassumption
  iintro Ho
  iapply (wp_loadB m ρ c) $$ HB
  iintro HB
  -- rows of group 0
  iapply (wp_fill m ρ c 0 _ _ _ (off1_eq c 0) (off2_eq c 0) (off2_eq c 0) _ (fun a => pay_first _ _)) $$ [HA Hg0]
  · isplitl [HA] <;> iassumption
  iintro ⟨HA, Hg0⟩
  -- the barrier
  iapply (wp_bar m ρ K c (xfers c) (xfers_rank c) rfl) $$ [Ho Hcb Hab]
  · isplitr; · iexact HR
    isplitr; · iexact Hlev
    isplitl [Ho]; · iexact Ho
    isplitl [Hcb] <;> iassumption
  iintro ⟨Ho, Hzb, Hd, Hd2⟩
  ihave Hd := (BIBase.Entails.of_eq (bigSep4 _)) $$ Hd
  ihave Hd2 := (BIBase.Entails.of_eq (bigSep3 _)) $$ Hd2
  icases Hd with ⟨Hd0, Hd1, Hd2', Hd3⟩
  icases Hd2 with ⟨Hd20, Hd21, Hd22⟩
  unfold xfers
  -- group 0 sent
  iapply (wp_sends m ρ K c 0 _ (first_to c).1 ⟨chunk_at c 0 0 _ (off3_eq c 0 0) _ _, chunk_at c 0 1 _ (off3_eq c 0 1) _ _, chunk_at c 0 2 _ (off3_eq c 0 2) _ _⟩
    ⟨rfl, rfl, rfl⟩ ⟨rfl, rfl, rfl⟩ ⟨rfl, rfl, rfl⟩) $$ [Ho Hg0 Hd0 Htx10]
  · isplitr; · iexact HR
    isplitl [Ho]; · iexact Ho
    isplitl [Hg0]; · iexact Hg0
    isplitl [Hd0] <;> iassumption
  iintro ⟨Ho, Hown0, Hfl10⟩
  -- rows of group 1
  iapply (wp_fill m ρ c 1 _ _ _ (off1_eq c 1) (off2_eq c 1) (off2_eq c 1) _ (fun a => pay_second _ _)) $$ [HA Hg1]
  · isplitl [HA] <;> iassumption
  iintro ⟨HA, Hg1⟩
  -- group 1 sent
  iapply (wp_sends m ρ K c 1 _ (first_to c).2.1 ⟨chunk_at c 1 0 _ (off3_eq c 1 0) _ _, chunk_at c 1 1 _ (off3_eq c 1 1) _ _, chunk_at c 1 2 _ (off3_eq c 1 2) _ _⟩
    ⟨rfl, rfl, rfl⟩ ⟨rfl, rfl, rfl⟩ ⟨rfl, rfl, rfl⟩) $$ [Ho Hg1 Hd1 Htx11]
  · isplitr; · iexact HR
    isplitl [Ho]; · iexact Ho
    isplitl [Hg1]; · iexact Hg1
    isplitl [Hd1] <;> iassumption
  iintro ⟨Ho, Hown1, Hfl11⟩
  -- rows of group 2
  iapply (wp_fill m ρ c 2 _ _ _ (off1_eq c 2) (off2_eq c 2) (off2_eq c 2) _ (fun a => pay_third _ _)) $$ [HA Hg2]
  · isplitl [HA] <;> iassumption
  iintro ⟨HA, Hg2⟩
  -- group 2 sent
  iapply (wp_sends m ρ K c 2 _ (first_to c).2.2.1 ⟨chunk_at c 2 0 _ (off3_eq c 2 0) _ _, chunk_at c 2 1 _ (off3_eq c 2 1) _ _, chunk_at c 2 2 _ (off3_eq c 2 2) _ _⟩
    ⟨rfl, rfl, rfl⟩ ⟨rfl, rfl, rfl⟩ ⟨rfl, rfl, rfl⟩) $$ [Ho Hg2 Hd2' Htx12]
  · isplitr; · iexact HR
    isplitl [Ho]; · iexact Ho
    isplitl [Hg2]; · iexact Hg2
    isplitl [Hd2'] <;> iassumption
  iintro ⟨Ho, Hown2, Hfl12⟩
  -- rows of group 3
  iapply (wp_fill m ρ c 3 _ _ _ (off1_eq c 3) (off2_eq c 3) (off2_eq c 3) _ (fun a => rfl)) $$ [HA Hg3]
  · isplitl [HA] <;> iassumption
  iintro ⟨HA, Hg3⟩
  -- group 3 sent
  iapply (wp_sends m ρ K c 3 _ (first_to c).2.2.2 ⟨chunk_at c 3 0 _ (off3_eq c 3 0) _ _, chunk_at c 3 1 _ (off3_eq c 3 1) _ _, chunk_at c 3 2 _ (off3_eq c 3 2) _ _⟩
    ⟨rfl, rfl, rfl⟩ ⟨rfl, rfl, rfl⟩ ⟨rfl, rfl, rfl⟩) $$ [Ho Hg3 Hd3 Htx13]
  · isplitr; · iexact HR
    isplitl [Ho]; · iexact Ho
    isplitl [Hg3]; · iexact Hg3
    isplitl [Hd3] <;> iassumption
  iintro ⟨Ho, Hown3, Hfl13⟩
  -- group 0 collected
  iapply (wp_collect m ρ K c 0 _ (cross_rank c) (off4_eq c 0) ⟨rfl, rfl, rfl⟩ ⟨rfl, rfl, rfl⟩ ⟨rfl, rfl, rfl⟩) $$ [Ho Hown0 Hrx10]
  · isplitr; · iexact HR
    isplitr; · iexact Hlev
    isplitl [Ho]; · iexact Ho
    isplitl [Hown0] <;> iassumption
  iintro ⟨Ho, Hown0, Hin10⟩
  unfold cross2
  -- its sum sent across planes
  iapply (wp_across m ρ K c _ 0 (second_to c).1 _ rfl rfl rfl rfl rfl rfl rfl) $$ [Ho Hu0 Hd20 Htx20]
  · isplitr; · iexact HR
    isplitl [Ho]; · iexact Ho
    isplitl [Hu0]; · iexact Hu0
    isplitl [Hd20] <;> iassumption
  iintro ⟨Ho, Hfl20⟩
  -- group 1 collected
  iapply (wp_collect m ρ K c 1 _ (fun t ht => cross_rank c t (List.mem_cons_of_mem _ ht)) (off4_eq c 1) ⟨rfl, rfl, rfl⟩ ⟨rfl, rfl, rfl⟩ ⟨rfl, rfl, rfl⟩) $$ [Ho Hown1 Hrx11]
  · isplitr; · iexact HR
    isplitr; · iexact Hlev
    isplitl [Ho]; · iexact Ho
    isplitl [Hown1] <;> iassumption
  iintro ⟨Ho, Hown1, Hin11⟩
  -- its sum sent across planes
  iapply (wp_across m ρ K c _ 1 (second_to c).2.1 _ (sum_second _ _ _ _) rfl rfl rfl rfl rfl rfl) $$ [Ho Hu1 Hd21 Htx21]
  · isplitr; · iexact HR
    isplitl [Ho]; · iexact Ho
    isplitl [Hu1]; · iexact Hu1
    isplitl [Hd21] <;> iassumption
  iintro ⟨Ho, Hfl21⟩
  -- group 2 collected
  iapply (wp_collect m ρ K c 2 _ (fun t ht => cross_rank c t (List.mem_cons_of_mem _ (List.mem_cons_of_mem _ ht))) (off4_eq c 2) ⟨rfl, rfl, rfl⟩ ⟨rfl, rfl, rfl⟩ ⟨rfl, rfl, rfl⟩) $$ [Ho Hown2 Hrx12]
  · isplitr; · iexact HR
    isplitr; · iexact Hlev
    isplitl [Ho]; · iexact Ho
    isplitl [Hown2] <;> iassumption
  iintro ⟨Ho, Hown2, Hin12⟩
  -- its sum sent across planes
  iapply (wp_across m ρ K c _ 2 (second_to c).2.2 _ (sum_third _ _ _ _) rfl rfl rfl rfl rfl rfl) $$ [Ho Hu2 Hd22 Htx22]
  · isplitr; · iexact HR
    isplitl [Ho]; · iexact Ho
    isplitl [Hu2]; · iexact Hu2
    isplitl [Hd22] <;> iassumption
  iintro ⟨Ho, Hfl22⟩
  -- group 3 collected
  iapply (wp_collect m ρ K c 3 _ (fun t ht => absurd ht List.not_mem_nil) (off4_eq c 3) ⟨rfl, rfl, rfl⟩ ⟨rfl, rfl, rfl⟩ ⟨rfl, rfl, rfl⟩) $$ [Ho Hown3 Hrx13]
  · isplitr; · iexact HR
    isplitr; · iexact Hlev
    isplitl [Ho]; · iexact Ho
    isplitl [Hown3] <;> iassumption
  iintro ⟨Ho, Hown3, Hin13⟩
  -- its sum is the start of the result
  iapply (wp_setO c f _) $$ HO
  iintro HO
  -- the sums of the other planes added
  iapply (wp_addIn m ρ K c 0 _ _ rfl rfl rfl) $$ [Ho Hrx20 HO]
  · isplitr; · iexact HR
    isplitr; · iexact Hlev
    isplitl [Ho]; · iexact Ho
    isplitl [Hrx20] <;> iassumption
  iintro ⟨Ho, Hin20, HO⟩
  iapply (wp_addIn m ρ K c 1 _ _ rfl rfl rfl) $$ [Ho Hrx21 HO]
  · isplitr; · iexact HR
    isplitr; · iexact Hlev
    isplitl [Ho]; · iexact Ho
    isplitl [Hrx21] <;> iassumption
  iintro ⟨Ho, Hin21, HO⟩
  iapply (wp_addIn m ρ K c 2 _ _ rfl rfl rfl) $$ [Ho Hrx22 HO]
  · isplitr; · iexact HR
    isplitr; · iexact Hlev
    isplitl [Ho]; · iexact Ho
    isplitl [Hrx22] <;> iassumption
  iintro ⟨Ho, Hin22, HO⟩
  -- the sent blocks taken back
  iapply (wp_takeback m ρ K c 0 ⟨rfl, rfl, rfl⟩
    ⟨chunk_at c 0 0 _ (off3_eq c 0 0) _ _, chunk_at c 0 1 _ (off3_eq c 0 1) _ _, chunk_at c 0 2 _ (off3_eq c 0 2) _ _⟩) $$ [Ho Hfl10]
  · isplitr; · iexact HR
    isplitr; · iexact Hlev
    isplitl [Ho] <;> iassumption
  iintro ⟨Ho, Hov10⟩
  iapply (wp_takeback m ρ K c 1 ⟨rfl, rfl, rfl⟩
    ⟨chunk_at c 1 0 _ (off3_eq c 1 0) _ _, chunk_at c 1 1 _ (off3_eq c 1 1) _ _, chunk_at c 1 2 _ (off3_eq c 1 2) _ _⟩) $$ [Ho Hfl11]
  · isplitr; · iexact HR
    isplitr; · iexact Hlev
    isplitl [Ho] <;> iassumption
  iintro ⟨Ho, Hov11⟩
  iapply (wp_takeback m ρ K c 2 ⟨rfl, rfl, rfl⟩
    ⟨chunk_at c 2 0 _ (off3_eq c 2 0) _ _, chunk_at c 2 1 _ (off3_eq c 2 1) _ _, chunk_at c 2 2 _ (off3_eq c 2 2) _ _⟩) $$ [Ho Hfl12]
  · isplitr; · iexact HR
    isplitr; · iexact Hlev
    isplitl [Ho] <;> iassumption
  iintro ⟨Ho, Hov12⟩
  iapply (wp_takeback m ρ K c 3 ⟨rfl, rfl, rfl⟩
    ⟨chunk_at c 3 0 _ (off3_eq c 3 0) _ _, chunk_at c 3 1 _ (off3_eq c 3 1) _ _, chunk_at c 3 2 _ (off3_eq c 3 2) _ _⟩) $$ [Ho Hfl13]
  · isplitr; · iexact HR
    isplitr; · iexact Hlev
    isplitl [Ho] <;> iassumption
  iintro ⟨Ho, Hov13⟩
  iapply (wp_back2 m ρ K c 0 rfl rfl) $$ [Ho Hfl20]
  · isplitr; · iexact HR
    isplitr; · iexact Hlev
    isplitl [Ho] <;> iassumption
  iintro ⟨Ho, Hov20⟩
  iapply (wp_back2 m ρ K c 1 rfl rfl) $$ [Ho Hfl21]
  · isplitr; · iexact HR
    isplitr; · iexact Hlev
    isplitl [Ho] <;> iassumption
  iintro ⟨Ho, Hov21⟩
  iapply (wp_back2 m ρ K c 2 rfl rfl) $$ [Ho Hfl22]
  · isplitr; · iexact HR
    isplitr; · iexact Hlev
    isplitl [Ho] <;> iassumption
  iintro ⟨Ho, Hov22⟩
  unfold run
  rw [wp_ret]
  imodintro
  iapply Hk
  ihave ⟨Hzr, Hs2⟩ := (split_in1 m ρ c) $$ [Hin10 Hin11 Hin12 Hin13]
  · iapply (BIBase.Entails.of_eq (bigSep4 (fun h => bigSep Finset.univ fun k : Fin 3 => in1 m ρ c k h)).symm)
    isplitl [Hin10]; · iexact Hin10
    isplitl [Hin11]; · iexact Hin11
    isplitl [Hin12] <;> iassumption
  ihave ⟨Hzs, Hs0⟩ := (split_over1 m ρ c) $$ [Hov10 Hov11 Hov12 Hov13 Hown0 Hown1 Hown2 Hown3]
  · isplitl [Hov10 Hov11 Hov12 Hov13]
    · iapply (BIBase.Entails.of_eq (bigSep4 (fun h => bigSep Finset.univ fun k : Fin 3 => over1 m ρ c k h)).symm)
      isplitl [Hov10]; · iexact Hov10
      isplitl [Hov11]; · iexact Hov11
      isplitl [Hov12] <;> iassumption
    · iapply (BIBase.Entails.of_eq (bigSep4 (fun h : Fin 4 => owns (c : Thread nD τ) (chunk c h 3) fullShare (part m ρ c h 3))).symm)
      isplitl [Hown0]; · iexact Hown0
      isplitl [Hown1]; · iexact Hown1
      isplitl [Hown2] <;> iassumption
  ihave ⟨Hzq, Hs3⟩ := (split_in2 m ρ c) $$ [Hin20 Hin21 Hin22]
  · iapply (BIBase.Entails.of_eq (bigSep3 (fun h => in2 m ρ c h)).symm)
    isplitl [Hin20]; · iexact Hin20
    isplitl [Hin21] <;> iassumption
  ihave ⟨Hzp, Hs1⟩ := (split_over2 m ρ c) $$ [Hov20 Hov21 Hov22]
  · iapply (BIBase.Entails.of_eq (bigSep3 (fun h => over2 m ρ c h)).symm)
    isplitl [Hov20]; · iexact Hov20
    isplitl [Hov21] <;> iassumption
  unfold quiet
  isplitl [Ho]; · iexact Ho
  isplitl [Hzb Hzs Hzr Hzp Hzq]
  · isplitl [Hzb]; · iexact Hzb
    isplitl [Hzs]; · iexact Hzs
    isplitl [Hzr]; · iexact Hzr
    isplitl [Hzp] <;> iassumption
  isplitl [Hs0 Hs1 Hs2 Hs3]
  · unfold anyBuf
    isplitl [Hs0]; · iexact Hs0
    isplitl [Hs1]; · iexact Hs1
    isplitl [Hs2] <;> iassumption
  isplitl [HA]; · iexact HA
  isplitl [HB]; · iexact HB
  iexact HO

end Cert.TwoPhase
end
-- ==== Proof.Deal.lean ====
/-
What the launch deals: every device gets its own semaphores' places, the tokens of the units it pays, and the credit
for what the others owe it.
-/
module

public import proofs.«01_k».proof.Proof.Body

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores by what they are for -/

/-- One thing for every semaphore of the kernel: the first phase's (sending, receiving), then the second's. -/
theorem sep30 (Φ : Fin 30 → sProp 𝕄) : bigSep Finset.univ Φ
    = iprop((bigSep Finset.univ fun h : Fin 4 => bigSep Finset.univ fun k : Fin 3 => Φ ⟨4 * k.val + h.val, by omega⟩)
        ∗ (bigSep Finset.univ fun h : Fin 4 => bigSep Finset.univ fun k : Fin 3 => Φ ⟨12 + (4 * k.val + h.val), by omega⟩)
        ∗ (bigSep Finset.univ fun h : Fin 3 => Φ ⟨24 + h.val, by omega⟩) ∗ bigSep Finset.univ fun h : Fin 3 => Φ ⟨27 + h.val, by omega⟩) := by
  rw [bigSep_univ_eq_bigSepL [0, 4, 8, 1, 5, 9, 2, 6, 10, 3, 7, 11, 12, 16, 20, 13, 17, 21, 14, 18, 22, 15, 19, 23, 24, 25, 26, 27, 28, 29]
    (by decide) (by decide) Φ]
  simp only [bigSep3, bigSep4, assoc_eq]
  rfl

/-- The barrier and the kernel's own. -/
theorem sep_succ (Φ : Fin 31 → sProp 𝕄) : bigSep Finset.univ Φ = iprop(Φ 0 ∗ bigSep Finset.univ fun j : Fin 30 => Φ j.succ) := by
  rw [bigSep_univ_at Φ 0, show (Finset.univ.erase (0 : Fin 31)) = Finset.univ.map (Fin.succEmb 30) by decide, bigSep_map]
  rfl

theorem sep31 (Φ : Fin 31 → sProp 𝕄) : bigSep Finset.univ Φ
    = iprop(Φ 0 ∗ (bigSep Finset.univ fun h : Fin 4 => bigSep Finset.univ fun k : Fin 3 => Φ (iS1 k h))
        ∗ (bigSep Finset.univ fun h : Fin 4 => bigSep Finset.univ fun k : Fin 3 => Φ (iR1 k h))
        ∗ (bigSep Finset.univ fun h : Fin 3 => Φ (iS2 h)) ∗ bigSep Finset.univ fun h : Fin 3 => Φ (iR2 h)) := by
  rw [sep_succ, sep30]; rfl

theorem cellS_injective : Function.Injective cellS := by
  have h : ∀ i j : Fin 31, cellS i = cellS j → i = j := by decide +kernel
  exact fun i j => h i j
theorem kcell_injective : Function.Injective kcell := by
  rintro ⟨c, k⟩ ⟨c', k'⟩ h
  have h1 : c = c' := congrArg (fun g : GSem nD τ sig => g.1.1) h
  have h2 : k = k' := cellS_injective (congrArg Prod.snd h)
  subst h1 h2; rfl
def allCells : Finset (GSem nD τ sig) := Finset.univ.map ⟨kcell, kcell_injective⟩

/-- The units of a device's semaphores: the barrier's, and one of each other. -/
def tokOf (ci : Dev nD × (Duty ⊕ Fin 30)) : GSem nD τ sig × ℕ × Duty := match ci.2 with
  | .inl d => (barCell ci.1, 0, d)
  | .inr j => (kcell (ci.1, j.succ), 0, (false, 0))
theorem tokOf_injective : Function.Injective tokOf := by
  rintro ⟨c, i⟩ ⟨c', i'⟩ h
  have hc : c = c' := by
    have := congrArg (fun x : GSem nD τ sig × ℕ × Duty => x.1.1.1) h
    cases i <;> cases i' <;> exact this
  subst hc
  cases i with
  | inl d => cases i' with
    | inl d' => have hd : d = d' := congrArg (fun x : GSem nD τ sig × ℕ × Duty => x.2.2) h
                rw [hd]
    | inr j' => exact absurd (congrArg (fun x : GSem nD τ sig × ℕ × Duty => x.1.2) h) (fun h' => by cases h')
  | inr j => cases i' with
    | inl d' => exact absurd (congrArg (fun x : GSem nD τ sig × ℕ × Duty => x.1.2) h) (fun h' => by cases h')
    | inr j' =>
      have hj : kcell (c, j.succ) = kcell (c, j'.succ) := congrArg (fun x : GSem nD τ sig × ℕ × Duty => x.1) h
      have hj' : j = j' := Fin.succ_injective _ (congrArg Prod.snd (kcell_injective hj))
      rw [hj']
def allToks : Finset (GSem nD τ sig × ℕ × Duty) := Finset.univ.map ⟨tokOf, tokOf_injective⟩

def u₀ : UU := (initOf (Pipeline.cells cfgs cellOf_inj) (Pipeline.launchToks cfgs cellOf_inj), initOf allCells allToks)

/-- The tokens of a device's own semaphores. -/
def toks (c : Dev nD) : sProp 𝕄 :=
  iprop((bigSep Finset.univ fun d : Duty => dutyTok ER (barCell c) 0 d) ∗ bigSep Finset.univ fun j : Fin 30 => dutyTok ER (kcell (c, j.succ)) 0 ((false, 0) : Duty))

theorem bigSep_either {α β : Type} [Fintype α] [Fintype β] (Φ : α ⊕ β → sProp 𝕄) :
    bigSep Finset.univ Φ = iprop((bigSep Finset.univ fun a => Φ (.inl a)) ∗ bigSep Finset.univ fun b => Φ (.inr b)) := by
  classical
  rw [← Finset.univ_disjSum_univ, ← Finset.map_inl_disjUnion_map_inr, Finset.disjUnion_eq_union,
    BI.bigSep_union (Finset.disjoint_map_inl_map_inr _ _), bigSep_map, bigSep_map]
  rfl

/-- What the launch's element deals a device. -/
def G (c : Dev nD) : sProp 𝕄 :=
  iprop((bigSep Finset.univ fun k : Fin 31 => roundState ER (sched m ρ) (kcell (c, k)) 0)
    ∗ (bigSep Finset.univ fun k : Fin 31 => iprop(atPos ER (kcell (c, k)) 0 ∅ 0 ∗ reached ER (kcell (c, k)) 0)) ∗ toks c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 31 => Φ (kcell (c, k)) := by
    unfold allCells; rw [bigSep_map, BI.bigSep_univ_prod]; rfl
  have hT : bigSep allToks (fun x => (dutyTok ER x.1 x.2.1 x.2.2 : sProp 𝕄)) = bigSep Finset.univ fun c : Dev nD => toks c := by
    unfold allToks; rw [bigSep_map, BI.bigSep_univ_prod]
    exact bigSep_congr fun c _ => by unfold toks; rw [bigSep_either]; rfl
  iintro HX
  imod (Rounds.fund ER (sched m ρ) allCells allToks) $$ HX with ⟨Hst, Hr, Hat, Htok⟩
  imodintro
  ihave Hst' := (BIBase.Entails.of_eq (hX fun g => roundState ER (sched m ρ) g 0)) $$ Hst
  ihave Hat' := (BIBase.Entails.of_eq (hX fun g => atPos ER g 0 ∅ 0)) $$ Hat
  ihave Hr' := (BIBase.Entails.of_eq (hX fun g => reached ER g 0)) $$ Hr
  ihave Htok' := (BIBase.Entails.of_eq hT) $$ Htok
  unfold G; simp only [bigSep_sep']
  isplitl [Hst']; · iexact Hst'
  isplitl [Hat' Hr']
  · isplitl [Hat'] <;> iassumption
  iexact Htok'

/-! ## Every semaphore's invariant -/

theorem ownSemFacts : Pipeline.OwnSemFacts cfg0.spec osem := by decide

/-- The barrier is the launch's one semaphore that no kernel allocates. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 31 => semVal (kcell (c, k)) 0 : sProp 𝕄) := by
  rw [unscopedSems0_eq, sep_succ]; rfl

/-- All at zero, by what they are for. -/
theorem quiet_eq (c : Dev nD) : quiet (F := F) c
    = iprop(unscopedSems0 c ∗ Pipeline.ownSems0 (Ix := Unit) (Name := ℕ) (U := UU) (Lvl := ℕ) (Val := Elt F) (τ := τ) osem c) := by
  rw [sems0_eq, sep31]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (BIBase.Entails.of_eq (sems0_eq (F := F) c)) $$ [Hos Hus]
  · isplitl [Hus] <;> iassumption
  imod (show iprop((bigSep Finset.univ fun k : Fin 31 => semVal (kcell (c, k)) 0) ∗ bigSep Finset.univ fun k : Fin 31 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (BI.bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Each token to the device that pays -/

/-- A family over devices, every member moved to another device. -/
theorem bigSep_moved {ι : Type} [Fintype ι] (e : ι → Dev nD ≃ Dev nD) (T : ι → Dev nD → sProp 𝕄) :
    (bigSep Finset.univ fun c : Dev nD => bigSep Finset.univ fun i => T i c) = bigSep Finset.univ fun c : Dev nD => bigSep Finset.univ fun i => T i (e i c) := by
  rw [BI.bigSep_univ_comm, BI.bigSep_univ_comm (fun (c : Dev nD) i => T i (e i c))]
  exact bigSep_congr fun i _ => BI.bigSep_univ_equiv (e i) (T i)

def backE : Fin 3 ≃ Fin 3 := ⟨back, back, back_back, back_back⟩

/-- What stays with a device: its places, and the tokens of the units it pays. -/
def linear (c : Dev nD) : sProp 𝕄 :=
  iprop((bigSep Finset.univ fun k : Fin 31 => atPos ER (kcell (c, k)) 0 ∅ 0) ∗ dues (F := F) c
    ∗ (bigSep Finset.univ fun h : Fin 4 => bigSep Finset.univ fun k : Fin 3 => dutyTok ER (cell c (s1 k h)) 0 ((false, 0) : Duty))
    ∗ (bigSep Finset.univ fun h : Fin 4 => bigSep Finset.univ fun k : Fin 3 => dutyTok ER (cell (pp k c) (r1 k h)) 0 ((false, 0) : Duty))
    ∗ (bigSep Finset.univ fun h : Fin 3 => dutyTok ER (cell c (s2 h)) 0 ((false, 0) : Duty))
    ∗ bigSep Finset.univ fun h : Fin 3 => dutyTok ER (cell (zp h c) (r2 h)) 0 ((false, 0) : Duty))

theorem dues_moved : (bigSep Finset.univ fun c : Dev nD => bigSep Finset.univ fun d : Duty => (dutyTok ER (barCell c) 0 d : sProp 𝕄))
    = bigSep Finset.univ fun c : Dev nD => dues (F := F) c := by
  have hd (c : Dev nD) : (bigSep Finset.univ fun d : Duty => (dutyTok ER (barCell c) 0 d : sProp 𝕄))
      = iprop((bigSep Finset.univ fun k : Fin 3 => dutyTok ER (barCell c) 0 ((false, back k) : Duty))
          ∗ bigSep Finset.univ fun k : Fin 3 => dutyTok ER (barCell c) 0 ((true, back k) : Duty)) := by
    rw [BI.bigSep_univ_prod, bigSep_univ_eq_bigSepL [false, true] (by decide) (by decide)]
    exact congrArg₂ (fun P Q => iprop(P ∗ Q))
      (BI.bigSep_univ_equiv backE (fun k => (dutyTok ER (barCell c) 0 ((false, k) : Duty) : sProp 𝕄)))
      (BI.bigSep_univ_equiv backE (fun k => (dutyTok ER (barCell c) 0 ((true, k) : Duty) : sProp 𝕄)))
  unfold dues
  simp only [hd, bigSep_sep']
  rw [bigSep_moved pp (fun k c => (dutyTok ER (barCell c) 0 ((false, back k) : Duty) : sProp 𝕄)),
    bigSep_moved zp (fun k c => (dutyTok ER (barCell c) 0 ((true, back k) : Duty) : sProp 𝕄))]

theorem own_toks (c : Dev nD) : (bigSep Finset.univ fun j : Fin 30 => (dutyTok ER (kcell (c, j.succ)) 0 ((false, 0) : Duty) : sProp 𝕄))
    ⊢ iprop((bigSep Finset.univ fun h : Fin 4 => bigSep Finset.univ fun k : Fin 3 => dutyTok ER (cell c (s1 k h)) 0 ((false, 0) : Duty))
    ∗ (bigSep Finset.univ fun h : Fin 4 => bigSep Finset.univ fun k : Fin 3 => dutyTok ER (cell c (r1 k h)) 0 ((false, 0) : Duty))
    ∗ (bigSep Finset.univ fun h : Fin 3 => dutyTok ER (cell c (s2 h)) 0 ((false, 0) : Duty))
    ∗ bigSep Finset.univ fun h : Fin 3 => dutyTok ER (cell c (r2 h)) 0 ((false, 0) : Duty)) := by
  rw [sep30]; exact BI.Entails.refl _

theorem toks_moved : (bigSep Finset.univ fun c : Dev nD => (toks c : sProp 𝕄))
    ⊢ iprop((bigSep Finset.univ fun c : Dev nD => dues (F := F) c)
    ∗ (bigSep Finset.univ fun c : Dev nD => bigSep Finset.univ fun h : Fin 4 => bigSep Finset.univ fun k : Fin 3 => dutyTok ER (cell c (s1 k h)) 0 ((false, 0) : Duty))
    ∗ (bigSep Finset.univ fun c : Dev nD => bigSep Finset.univ fun h : Fin 4 => bigSep Finset.univ fun k : Fin 3 => dutyTok ER (cell (pp k c) (r1 k h)) 0 ((false, 0) : Duty))
    ∗ (bigSep Finset.univ fun c : Dev nD => bigSep Finset.univ fun h : Fin 3 => dutyTok ER (cell c (s2 h)) 0 ((false, 0) : Duty))
    ∗ bigSep Finset.univ fun c : Dev nD => bigSep Finset.univ fun h : Fin 3 => dutyTok ER (cell (zp h c) (r2 h)) 0 ((false, 0) : Duty)) := by
  have h1 : (bigSep Finset.univ fun c : Dev nD => bigSep Finset.univ fun h : Fin 4 => bigSep Finset.univ fun k : Fin 3 => (dutyTok ER (cell c (r1 k h)) 0 ((false, 0) : Duty) : sProp 𝕄))
      = bigSep Finset.univ fun c : Dev nD => bigSep Finset.univ fun h : Fin 4 => bigSep Finset.univ fun k : Fin 3 => dutyTok ER (cell (pp k c) (r1 k h)) 0 ((false, 0) : Duty) := by
    have := bigSep_moved (fun i : Fin 4 × Fin 3 => pp i.2) (fun i c => (dutyTok ER (cell c (r1 i.2 i.1)) 0 ((false, 0) : Duty) : sProp 𝕄))
    simpa only [BI.bigSep_univ_prod] using this
  have h2 := bigSep_moved zp (fun h c => (dutyTok ER (cell c (r2 h)) 0 ((false, 0) : Duty) : sProp 𝕄))
  rw [← h1, ← h2, ← dues_moved, ← bigSep_sep', ← bigSep_sep', ← bigSep_sep', ← bigSep_sep']
  refine bigSep_each fun c => ?_
  unfold toks
  iintro ⟨H, Hj⟩
  isplitl [H]; · iexact H
  iapply (own_toks c); iexact Hj

/-! ## The step all devices take together -/

/-- What a device's program starts from, at some names of the invariants. -/
def G' (c : Dev nD) : sProp 𝕄 := iprop(∃ K, records m ρ K ∗ linear (F := F) c)

theorem bigSep_each_with {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact BI.bigSep_mono fun c _ => h c)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← BI.bigSep_univ_prod (fun ck : Dev nD × Fin 31 => iprop(∃ κ : ℕ, cellInv ER (sched m ρ) κ (kcell ck))),
    bigSep_congr (s := Finset.univ) (fun (c : Dev nD) _ => bigSep_sep' Finset.univ (fun k : Fin 31 => (atPos ER (kcell (c, k)) 0 ∅ 0 : sProp 𝕄)) (fun k => reached ER (kcell (c, k)) 0)),
    bigSep_sep', ← BI.bigSep_univ_prod (fun ck : Dev nD × Fin 31 => (reached ER (kcell ck) 0 : sProp 𝕄))]
  iintro ⟨HI, ⟨Hat, #HR⟩, Htok⟩
  ihave HK := (BI.bigSep_exists_pi Finset.univ (fun (ck : Dev nD × Fin 31) (κ : ℕ) => (cellInv ER (sched m ρ) κ (kcell ck) : sProp 𝕄))) $$ HI
  icases HK with ⟨%K, #HI⟩
  ihave Htk := (toks_moved (F := F)) $$ Htok
  iapply (bigSep_each_with (R := records m ρ K) (Φ := fun c => linear (F := F) c) fun c => by
    unfold G'; iintro H; iexists K; iexact H)
  isplitr
  · unfold records record; rw [bigSep_sep']
    isplitr; · iexact HI
    iexact HR
  · unfold linear
    simp only [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((BI.bigSep_mono fun c _ => core_alloc m ρ c).trans (bigSep_fupd _ _)).trans (BI.fupd_mono (regroup m ρ))

/-! ## The credit a device starts with -/

/-- What is owed to one semaphore: the payments to it that are outstanding. -/
theorem owed_apply (l : List (Dev nD × Fin 31)) (t : Dev nD × Fin 31) : owed l (kcell t) () = l.count t * amt t.2 := by
  induction l with
  | nil => simp [owed]
  | cons s l ih =>
    unfold owed
    rw [Pi.add_apply, Finsupp.add_apply, tallyAt_apply, ih, List.count_cons]
    by_cases h : s = t
    · subst h; rw [if_pos ⟨rfl, rfl⟩]; simp [Nat.add_mul]
    · rw [if_neg (fun h' => h (kcell_injective h'.1).symm)]; simp [h]

/-- The payments each semaphore gets from all devices together. -/
theorem paid_bar : ∀ c : Dev nD, (∑ d : Dev nD, (debts d).count (c, 0)) = 6 := by decide +kernel
theorem paid_r1 : ∀ (c : Dev nD) (k : Fin 3) (h : Fin 4), (∑ d : Dev nD, (debts d).count (c, iR1 k h)) = 1 := by decide +kernel
theorem paid_r2 : ∀ (c : Dev nD) (h : Fin 3), (∑ d : Dev nD, (debts d).count (c, iR2 h)) = 1 := by decide +kernel

abbrev O₀ (c : Dev nD) : CellTallies nD τ sig Unit := owed (debts c)

theorem launch_at (t : Dev nD × Fin 31) (n : ℕ) (hn : (∑ d : Dev nD, (debts d).count t) = n) :
    tallyOn (kcell t) (launchCredit (Pipeline.owing O₀) 0 (kcell t)) = (tallyAt (kcell t) () (n * amt t.2) : CellTallies nD τ sig Unit) := by
  unfold tallyAt; refine congrArg _ (Finsupp.ext fun u => ?_); cases u
  rw [Pipeline.launchCredit_owing, Finsupp.single_eq_same, Finset.sum_congr rfl fun d _ => owed_apply (debts d) t, ← Finset.sum_mul, hn]

theorem amt_r1 (k : Fin 3) (h : Fin 4) : 1 * amt (iR1 k h) = N := by unfold iR1; rw [amt_succ, Nat.one_mul]
theorem amt_r2 (h : Fin 3) : 1 * amt (iR2 h) = N := by unfold iR2; rw [amt_succ, Nat.one_mul]

theorem creds (c : Dev nD) : (Pipeline.launchCred O₀ c : sProp 𝕄) ⊢ iprop(cred (tallyAt (barCell c) () 6)
    ∗ (bigSep Finset.univ fun h : Fin 4 => bigSep Finset.univ fun k : Fin 3 => cred (tallyAt (cell c (r1 k h)) () N))
    ∗ bigSep Finset.univ fun h : Fin 3 => cred (tallyAt (cell c (r2 h)) () N)) := by
  have hb : tallyOn (barCell c) (launchCredit (Pipeline.owing O₀) 0 (barCell c)) = tallyAt (barCell c) () 6 := launch_at (c, 0) 6 (paid_bar c)
  have h1 : ∀ k h, tallyOn (cell c (r1 k h)) (launchCredit (Pipeline.owing O₀) 0 (cell c (r1 k h))) = tallyAt (cell c (r1 k h)) () N :=
    fun k h => (launch_at (c, iR1 k h) 1 (paid_r1 c k h)).trans (congrArg (tallyAt (cell c (r1 k h)) ()) (amt_r1 k h))
  have h2 : ∀ h, tallyOn (cell c (r2 h)) (launchCredit (Pipeline.owing O₀) 0 (cell c (r2 h))) = tallyAt (cell c (r2 h)) () N :=
    fun h => (launch_at (c, iR2 h) 1 (paid_r2 c h)).trans (congrArg (tallyAt (cell c (r2 h)) ()) (amt_r2 h))
  unfold Pipeline.launchCred
  refine BIBase.Entails.trans (BI.bigSep_subset (Finset.subset_univ (Finset.univ.map ⟨cellS, cellS_injective⟩))) ?_
  rw [bigSep_map, sep31]
  show iprop(cred (tallyOn (barCell c) (launchCredit (Pipeline.owing O₀) 0 (barCell c))) ∗ _
    ∗ (bigSep Finset.univ fun h : Fin 4 => bigSep Finset.univ fun k : Fin 3 => cred (tallyOn (cell c (r1 k h)) (launchCredit (Pipeline.owing O₀) 0 (cell c (r1 k h)))))
    ∗ _ ∗ bigSep Finset.univ fun h : Fin 3 => cred (tallyOn (cell c (r2 h)) (launchCredit (Pipeline.owing O₀) 0 (cell c (r2 h))))) ⊢ _
  simp only [hb, h1, h2]
  iintro ⟨H, -, H1, -, H2⟩
  isplitl [H]; · iexact H
  isplitl [H1] <;> iassumption

/-- Places, tokens and credit are all a device needs. -/
theorem rights_intro (c : Dev nD) : iprop(linear (F := F) c ∗ cred (tallyAt (barCell c) () 6)
    ∗ (bigSep Finset.univ fun h : Fin 4 => bigSep Finset.univ fun k : Fin 3 => cred (tallyAt (cell c (r1 k h)) () N))
    ∗ bigSep Finset.univ fun h : Fin 3 => cred (tallyAt (cell c (r2 h)) () N)) ⊢ rights (F := F) c := by
  have hp : (bigSep Finset.univ fun k : Fin 31 => (atPos ER (kcell (c, k)) 0 ∅ 0 : sProp 𝕄))
      = iprop(atPos ER (barCell c) 0 ∅ 0 ∗ (bigSep Finset.univ fun h : Fin 4 => bigSep Finset.univ fun k : Fin 3 => atPos ER (cell c (s1 k h)) 0 ∅ 0)
        ∗ (bigSep Finset.univ fun h : Fin 4 => bigSep Finset.univ fun k : Fin 3 => atPos ER (cell c (r1 k h)) 0 ∅ 0)
        ∗ (bigSep Finset.univ fun h : Fin 3 => atPos ER (cell c (s2 h)) 0 ∅ 0) ∗ bigSep Finset.univ fun h : Fin 3 => atPos ER (cell c (r2 h)) 0 ∅ 0) := sep31 _
  unfold linear rights tx1 rx1 tx2 rx2
  rw [hp]
  simp only [bigSep_sep']
  iintro ⟨⟨⟨Hab, Has1, Har1, Has2, Har2⟩, Hd, Hts1, Htr1, Hts2, Htr2⟩, Hcb, Hc1, Hc2⟩
  isplitl [Hd]; · iexact Hd
  isplitl [Hcb Hab]
  · isplitl [Hcb] <;> iassumption
  isplitl [Hts1 Htr1 Has1]
  · isplitl [Hts1]; · iexact Hts1
    isplitl [Htr1] <;> iassumption
  isplitl [Hc1 Har1]
  · isplitl [Hc1] <;> iassumption
  isplitl [Hts2 Htr2 Has2]
  · isplitl [Hts2]; · iexact Hts2
    isplitl [Htr2] <;> iassumption
  isplitl [Hc2] <;> iassumption

end Cert.TwoPhase
end
-- ==== Proof.Launch.lean ====
/-
The run: from any memory with zero counters the sixteen programs end, each device's result array at its computed
contents, the arguments as they were, every counter at zero.
-/
module

public import proofs.«01_k».proof.Proof.Deal
public import Idealize.ShloMosaic.Lib.Pipeline.CollectiveSegs

@[expose] public section

noncomputable section

namespace Cert.TwoPhase

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's data -/

/-- What a device's program starts from, its scratch buffers apart. -/
def start (c : Dev nD) : sProp 𝕄 := iprop((∃ K, records m ρ K ∗ rights (F := F) c) ∗ levAts L lv)
def Φ₀ (c : Dev nD) : sProp 𝕄 := iprop(start m ρ c ∗ scratch (F := F) c)
def Φ₁ (c : Dev nD) : sProp 𝕄 := iprop(quiet (F := F) c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xa m ρ c
    | ⟨1, _⟩ => Xb m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The grid's one point. -/
def t₀ : Fin cfg0.N := t0_0
theorem fin_N (t : Fin cfg0.N) : t = t₀ := fin_N0 t

theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body against the launch's data -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (Xa m ρ c) ∗ stg c cc0_stg1_0 (Xb m ρ c) ∗ stg c cc0_stg2_0 (outAt m ρ c))

theorem sound_body (c : Dev nD) : bodyPre m ρ c ⊢ theBody c (fun _ => bodyPost m ρ c) := by
  unfold bodyPre Φ₀ start
  iintro ⟨⟨⟨⟨%K, #HR, Hr⟩, #Hlev⟩, Hs⟩, Ho, ⟨%d0, %g0, %hg0, HA⟩, ⟨%d1, %g1, %hg1, HB⟩, ⟨%d2, %g2, %hg2, HO⟩⟩
  have hx : g0 = Xa m ρ c := by rw [hg0]; unfold Dat.before; rw [if_pos (fetch_0 t₀)]; rfl
  have hy : g1 = Xb m ρ c := by rw [hg1]; unfold Dat.before; rw [if_pos (fetch_1 t₀)]; rfl
  subst hx hy
  unfold Dat.owesAt Pipeline.owesWithin
  icases Ho with ⟨%W, %hW, HO'⟩
  rw [show (dats m ρ 0 c).owed t₀.castSucc = owed (debts c) from rfl]
  iapply (body_run m ρ K c g2 fun _ => bodyPost m ρ c) $$ [HO' Hr Hs HA HB HO]
  · unfold owesL hasA hasB hasO
    isplitr; · iexact HR
    isplitr; · iexact Hlev
    isplitl [HO']; · iexists W; iexact HO'
    isplitl [Hr]; · iexact Hr
    isplitl [Hs]; · iexact Hs
    isplitl [HA]; · iexact HA
    isplitl [HB] <;> iassumption
  unfold owesL hasA hasB hasO
  iintro ⟨⟨%W', Ho⟩, Hq, Hs, HA, HB, HO⟩
  unfold bodyPost Φ₁ Dat.owesAt Pipeline.owesWithin
  rw [show (dats m ρ 0 c).owed t₀.succ = owed [] from rfl]
  isplitl [Hq Hs]
  · isplitl [Hq] <;> iassumption
  isplitl [Ho]
  · iexists W'
    isplitr; · ipureintro; exact fun _ _ => Or.inl trivial
    iexact Ho
  isplitl [HA]
  · iexists _; isplitr; · (ipureintro; rfl)
    iexact HA
  isplitl [HB]
  · iexists _; isplitr; · (ipureintro; rfl)
    iexact HB
  iexists _; isplitr; · (ipureintro; rfl)
  iexact HO

set_option maxRecDepth 16000 in
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  icases HG with ⟨%K, HR, Hl⟩
  isplitl
  · isplitl [HR Hl Hc]
    · iexists K
      isplitl [HR]; · iexact HR
      iapply (rights_intro (F := F) c)
      isplitl [Hl] <;> iassumption
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch anyBuf
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch anyBuf
  rw [quiet_eq]
  iintro ⟨⟨Hu, Ho⟩, Hr⟩
  isplitl [Hu]; · iexact Hu
  isplitl [Ho] <;> iassumption

theorem debts_rank (c : Dev nD) : ∀ t ∈ debts c, 0 < rank (cellS t.2) := by unfold debts xfers plane1 cross2; decide +revert

/-- The staging semaphores rank below everything. -/
theorem mayWait_stage (c : Dev nD) (q : DmaSem sig) (hq : rank (.dma q) = 0) (O : CellTallies nD τ sig Unit) (hO : O = O₀ c ∨ O = 0) :
    (levAts L lv : sProp 𝕄) ⊢ MayWait (c : Thread nD τ) (.dma q) () O := by
  rcases hO with rfl | rfl
  · exact mayWait c _ (debts c) fun t ht => by rw [hq]; exact debts_rank c t ht
  · exact mayWait c _ [] fun t ht => absurd ht List.not_mem_nil

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two arguments hold what they held. -/
theorem finalA_a (c : Dev nD) : finalA m ρ c (0 : Fin 3) = (s₀ m ρ).mem (win0_0.arr.view.loc (c : Thread nD τ)) :=
  (dats (F := F) m ρ 0 c).arrAt_in (0 : Fin 3) rfl _
theorem finalA_b (c : Dev nD) : finalA m ρ c (1 : Fin 3) = (s₀ m ρ).mem (win0_1.arr.view.loc (c : Thread nD τ)) :=
  (dats (F := F) m ρ 0 c).arrAt_in (1 : Fin 3) rfl _

end Cert.TwoPhase
end
-- ==== Proof.Value.lean ====
/-
What the programs compute over the extended reals: every block a device adds up is a block of rows of one
device's partial product, sixteen of them, one from each device; the contraction's 6144 terms are the
sixteen devices' 384.
-/
module

public import proofs.«01_k».proof.Proof.Launch
public import proofs.«01_k».proof.Proof.Gen.KernelIdeal.Points
public import Idealize.ShloMosaic.Lib.Pipeline.Value
public import Idealize.ShloMosaic.Lib.ValueIdx
public import Idealize.ShloMosaic.Lib.MatmulPlain
public import Idealize.ShloMosaic.Lib.Layout

@[expose] public section

noncomputable section

namespace Cert.TwoPhase

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Arrays

variable {F : FTy → Type} [FloatOps F]
variable (m : (ℓ : Loc nD τ sig) → Buf (Elt F) ℓ) (ρ : Dev nD → PrngReg)

/-! ## The staged blocks are the arrays, the result array the staged result -/

theorem Xa_eq (c : Dev nD) : Xa m ρ c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _
theorem Xb_eq (c : Dev nD) : Xb m ρ c = m ((c : Thread nD τ).loc main_arg1) :=
  Memref.read_access_unit_zero (Elt F) main_arg1 (off := fun a => win0_1.index (0 : Fin 1) a * main_arg1.ty.shape.size a)
    (funext fun a => by fin_cases a <;> decide) (fun a => by fin_cases a <;> decide) _

theorem read_res (c : Dev nD) (f : Buf (Elt F) ((c : Thread nD τ).loc main_v1)) : (win0_2.blk t₀).view.read (Elt F) f = f :=
  Memref.read_access_unit_zero (Elt F) main_v1 (off := fun a => win0_2.index t₀ a * main_v1.ty.shape.size a)
    (funext fun a => by fin_cases a <;> decide) (fun a => by fin_cases a <;> decide) f

theorem finalA_res (c : Dev nD) : finalA m ρ c (2 : Fin 3) = outAt m ρ c := by
  have hw : ((cfg0.win (2 : Fin 3)).blk t₀).view.read (Elt F) (finalA m ρ c (2 : Fin 3)) = (dats m ρ 0 c).flushed (2 : Fin 3) t₀ := by
    unfold finalA
    rw [show cfg0.N = t₀.val + 1 from rfl, (dats m ρ 0 c).arrAt_succ (2 : Fin 3) t₀, flush0_2, if_pos rfl]
    exact View.read_write_univ _ _
  have hf : (dats m ρ 0 c).flushed (2 : Fin 3) t₀ = outAt m ρ c := funext fun _ => rfl
  exact (read_res c _).symm.trans (hw.trans hf)

end Arrays

/-! ## The sums over the extended reals -/

section Ideal

variable (m : (ℓ : Loc nD τ sig) → Buf (Elt Ideal) ℓ) (ρ : Dev nD → PrngReg)

theorem down_up (X : Vec Ideal S48x768 .bf16) : shapeCast (α := EReal) S48x768 (up4 X) shapeCasts_S1x1x48x768_S48x768 = X := cast_cast_eq _ _ X
theorem down_up3 (X : Vec Ideal S48x768 .bf16) : shapeCast (α := EReal) S48x768 (up3 X) shapeCasts_S1x48x768_S48x768 = X := cast_cast_eq _ _ X

theorem wideSum_apply (o x y z : Vec Ideal S48x768 .bf16) (i : S48x768.Idx) : @Eq EReal (wideSum o x y z i) (((o i + x i : EReal) + y i) + z i) := by
  show @Eq EReal (((o i + shapeCast (α := EReal) S48x768 (up4 x) shapeCasts_S1x1x48x768_S48x768 i)
    + shapeCast (α := EReal) S48x768 (up4 y) shapeCasts_S1x1x48x768_S48x768 i) + shapeCast (α := EReal) S48x768 (up4 z) shapeCasts_S1x1x48x768_S48x768 i) _
  rw [down_up, down_up, down_up]

theorem planeSum_apply (o x y z : Vec Ideal S48x768 .bf16) (i : S48x768.Idx) :
    @Eq EReal (down3 (planeSum o x y z) i) (((o i + x i : EReal) + y i) + z i) :=
  (congrFun (cast_cast_eq shapeCasts_S48x768_S1x48x768 shapeCasts_S1x48x768_S48x768 (wideSum o x y z : S48x768.Idx → EReal)) i).trans (wideSum_apply o x y z i)

theorem outOf_apply (w : Vec Ideal S48x768 .f32) (x y z : Vec Ideal S48x768 .bf16) (i : S48x768.Idx) :
    @Eq EReal (outOf w x y z i) (((w i + x i : EReal) + y i) + z i) := by
  unfold outOf k0_pay23 k0_pay22 k0_pay21
  simp only [shapeCast_self]
  show @Eq EReal (((w i + shapeCast (α := EReal) S48x768 (up3 x) shapeCasts_S1x48x768_S48x768 i)
    + shapeCast (α := EReal) S48x768 (up3 y) shapeCasts_S1x48x768_S48x768 i) + shapeCast (α := EReal) S48x768 (up3 z) shapeCasts_S1x48x768_S48x768 i) _
  rw [down_up3, down_up3, down_up3]

/-- The columns of `A` and the rows of `B` that device `d` is given. -/
def colsOf (d : Dev nD) : (⟨2, ![768, 384]⟩ : Shape).Idx → EReal := m ((d : Thread nD τ).loc main_arg0)
def rowsOf (d : Dev nD) : (⟨2, ![384, 768]⟩ : Shape).Idx → EReal := m ((d : Thread nD τ).loc main_arg1)

/-- Entry `(r, n)` of the partial product of device `d`. -/
def prod (d : Dev nD) (r n : Fin 768) : EReal :=
  ∑ k : Fin 384, colsOf m d (ix2 r k) * rowsOf m d (ix2 k n)

theorem dot_plain : dot_S192x384_S384x768_S192x768_1_0_0_1_n_n = DotDims.plain 192 384 768 := rfl

theorem aRows_apply (c : Dev nD) (h : Fin 4) (r : Fin 192) (k : Fin 384) :
    @Eq EReal (aRows m ρ c h (ix2 r k)) (colsOf m c (ix2 ⟨grpRow c h + r.val, by have := grpRow_le c h; omega⟩ k)) := by
  unfold aRows
  rw [Xa_eq]
  show colsOf m c _ = _
  congr 1
  funext a
  apply Fin.ext
  match a with
  | ⟨0, _⟩ => show grpRow c h + 1 * r.val = grpRow c h + r.val; omega
  | ⟨1, _⟩ => show 0 + 1 * k.val = k.val; omega

theorem grp_apply (c : Dev nD) (h : Fin 4) (r : Fin 192) (n : Fin 768) :
    @Eq EReal (grp m ρ c h (ix2 r n)) (prod m c ⟨grpRow c h + r.val, by have := grpRow_le c h; omega⟩ n) := by
  unfold grp k0_pay8 k0_pay1
  simp only [shapeCast_self]
  rw [truncf_apply, dot_plain]
  refine (Ideal.matmul_plain_apply none _ _ _ r n).trans ?_
  rw [show ((constant S192x768 .f32 0x00000000#32 : FVec Ideal S192x768 .f32) (ix2 r n) : EReal) = 0 from Idealize.ShloMosaic.Ideal.ofBits_zero_f32, zero_add]
  unfold prod
  refine Finset.sum_congr rfl fun k _ => ?_
  rw [aRows_apply, Xb_eq]
  rfl

/-- Part `j` of group `h` on device `d` is the block of rows from `grpRow d h + subRow d j` on. -/
theorem part_apply (d : Dev nD) (h j : Fin 4) (i : S48x768.Idx) (R n : Fin 768) (hR : R.val = grpRow d h + subRow d j + (i 0).val) (hn : n = i 1) :
    @Eq EReal (part m ρ d h j i) (prod m d R n) := by
  subst hn
  unfold part
  refine (congrArg (grp m ρ d h) (eq_ix2 (n0 := 192) (n1 := 768) (rowIn d j i))).trans ((grp_apply m ρ d h _ _).trans ?_)
  refine congrArg (fun r => prod m d r (i 1)) (Fin.ext ?_)
  rw [hR, Nat.add_assoc]
  rfl

/-! ## Whose rows are added -/

theorem rows_own : ∀ c : Dev nD, grpRow c 3 + subRow c 3 = 48 * c.val := by decide +kernel
theorem rows_plane : ∀ (c : Dev nD) (k : Fin 3), grpRow ((pp k).symm c) 3 + subRow ((pp k).symm c) k.castSucc = 48 * c.val := by decide +kernel
theorem rows_cross : ∀ (c : Dev nD) (h : Fin 3), grpRow ((zp h).symm c) h.castSucc + subRow ((zp h).symm c) 3 = 48 * c.val := by decide +kernel
theorem rows_cross_plane : ∀ (c : Dev nD) (h k : Fin 3),
    grpRow ((pp k).symm ((zp h).symm c)) h.castSucc + subRow ((pp k).symm ((zp h).symm c)) k.castSucc = 48 * c.val := by decide +kernel

/-- The devices of the plane of `c`, and all devices, in the order device `c` adds them up. -/
def planeOf (c : Dev nD) : List (Dev nD) := [c, (pp 0).symm c, (pp 1).symm c, (pp 2).symm c]
def everyone (c : Dev nD) : List (Dev nD) :=
  planeOf c ++ planeOf ((zp 0).symm c) ++ planeOf ((zp 1).symm c) ++ planeOf ((zp 2).symm c)
theorem everyone_perm : ∀ c : Dev nD, (everyone c).Perm (List.finRange 16) := by decide +kernel

theorem sum_devices (c : Dev nD) (g : Dev nD → EReal) : ((everyone c).map g).sum = ∑ d : Fin 16, g d := by
  rw [((everyone_perm c).map g).sum_eq, ← List.ofFn_eq_map, List.sum_ofFn]

/-- Row `x` of the result of device `c` is row `48 c + x` of the sum of all devices' partial products. -/
theorem outAt_apply (c : Dev nD) (i : S48x768.Idx) (R n : Fin 768) (hR : R.val = 48 * c.val + (i 0).val) (hn : n = i 1) :
    @Eq EReal (outAt m ρ c i) (∑ d : Fin 16, prod m d R n) := by
  rw [← sum_devices c fun d => prod m d R n]
  unfold outAt
  rw [outOf_apply, wideSum_apply]
  have own : @Eq EReal (part m ρ c 3 3 i) (prod m c R n) := part_apply m ρ c 3 3 i R n (by rw [hR, rows_own]) hn
  have near : ∀ k : Fin 3, @Eq EReal (arr m ρ c k 3 i) (prod m ((pp k).symm c) R n) := fun k =>
    part_apply m ρ _ 3 _ i R n (by rw [hR, rows_plane]) hn
  have far : ∀ h : Fin 3, @Eq EReal (zarr m ρ c h i) ((planeOf ((zp h).symm c)).map fun d => prod m d R n).sum := fun h => by
    have o : @Eq EReal (part m ρ ((zp h).symm c) h.castSucc 3 i) (prod m ((zp h).symm c) R n) := part_apply m ρ _ _ 3 i R n (by rw [hR, rows_cross]) hn
    have s : ∀ k : Fin 3, @Eq EReal (arr m ρ ((zp h).symm c) k h.castSucc i) (prod m ((pp k).symm ((zp h).symm c)) R n) := fun k =>
      part_apply m ρ _ _ _ i R n (by rw [hR, rows_cross_plane]) hn
    unfold zarr zsum
    rw [planeSum_apply, o, s, s, s]
    simp only [planeOf, List.map_cons, List.map_nil, List.sum_cons, List.sum_nil, add_zero, add_assoc]
  rw [own, near, near, near, far, far, far]
  simp only [everyone, planeOf, List.map_append, List.sum_append, List.map_cons, List.map_nil, List.sum_cons, List.sum_nil, add_zero, add_assoc]

/-! ## Against the one device's product -/

variable (A : (⟨2, ![768, 6144]⟩ : Shape).Idx → EReal) (B : (⟨2, ![6144, 768]⟩ : Shape).Idx → EReal)

/-- The devices' contractions together are the whole one. -/
theorem sum_prod (hA : ∀ c : Dev nD, m ((c : Thread nD τ).loc main_arg0) = Layout.block ⟨2, ![768, 384]⟩ ⟨2, ![768, 6144]⟩ 1 16 c A)
    (hB : ∀ c : Dev nD, m ((c : Thread nD τ).loc main_arg1) = Layout.block ⟨2, ![384, 768]⟩ ⟨2, ![6144, 768]⟩ 0 16 c B) (R n : Fin 768) :
    ∑ d : Fin 16, prod m d R n = ∑ k : Fin 6144, A (ix2 R k) * B (ix2 k n) := by
  have e : ∑ k : Fin 6144, A (ix2 R k) * B (ix2 k n) = ∑ p : Fin 16 × Fin 384, A (ix2 R (finProdFinEquiv p)) * B (ix2 (finProdFinEquiv p) n) :=
    (Equiv.sum_comp (finProdFinEquiv (m := 16) (n := 384)) fun k : Fin 6144 => A (ix2 R k) * B (ix2 k n)).symm
  rw [e, Fintype.sum_prod_type]
  refine Finset.sum_congr rfl fun d _ => ?_
  unfold prod colsOf rowsOf
  refine Finset.sum_congr rfl fun k _ => ?_
  have hk : d.val * 384 + k.val = k.val + 384 * d.val := by omega
  have ha : (Layout.Tiles.idx (S := ⟨2, ![768, 384]⟩) (T := ⟨2, ![768, 6144]⟩) (a := 1) (k := 16) (by decide) d (ix2 R k)) = ix2 R (finProdFinEquiv (d, k)) := by
    funext a; apply Fin.ext
    match a with
    | ⟨0, _⟩ => rfl
    | ⟨1, _⟩ => exact hk
  have hb : (Layout.Tiles.idx (S := ⟨2, ![384, 768]⟩) (T := ⟨2, ![6144, 768]⟩) (a := 0) (k := 16) (by decide) d (ix2 k n)) = ix2 (finProdFinEquiv (d, k)) n := by
    funext a; apply Fin.ext
    match a with
    | ⟨0, _⟩ => exact hk
    | ⟨1, _⟩ => rfl
  rw [hA d, hB d, Layout.block_apply, Layout.block_apply, ha, hb]

end Ideal

end Cert.TwoPhase
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.StackMember
public import Idealize.ShloMosaic.Adequacy
public import Idealize.ShloMosaic.Init

@[expose] public section

noncomputable section

namespace Cert.Proof

open Idealize.ShloMosaic Idealize.SL.Sem Idealize.ShloMosaic.ValueIdx

/-- The kernel's run (Proof/Launch.lean `run_main`) at any reading of the floats, read at the arguments and the counters. -/
theorem kept {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h =>
    ⟨fun c => ⟨(h.1 c (0 : Fin 3)).trans (Cert.TwoPhase.finalA_a m ρ c), (h.1 c (1 : Fin 3)).trans (Cert.TwoPhase.finalA_b m ρ c)⟩, h.2⟩)
    (Cert.TwoPhase.run_main (F := F) m ρ)

/-- The kernel's text is the idealization's: the two programs call the same body on the same buffers. -/
theorem same_body {F : FTy → Type} [FloatOps F] : Cert.Kernel.defs₀ (F := F) = Cert.KernelIdeal.defs₀ (F := F) := by
  refine congrArg Defs.onTc (funext fun ℓ => funext fun a => ?_)
  match ℓ, a with
  | ⟨0, _⟩, (t, s) => rfl
  | ⟨k + 1, h⟩, _ => exact absurd h (Nat.not_lt.2 (Nat.le_add_left _ _))

/-- The kernel as it runs, at machine floats. -/
theorem frame_kernel : Cert.quiescent_Kernel := fun m ρ _ => by
  unfold Cert.Kernel.defs
  rw [same_body]
  exact kept (F := Bits) m ρ

/-- The kernel over the extended reals. -/
theorem frame_kernelIdeal : Cert.quiescent_KernelIdeal := fun m ρ _ => kept (F := Ideal) m ρ

/-- The one device's product at an entry. -/
theorem reference_apply (A : FVec Ideal ⟨2, ![768, 6144]⟩ .bf16) (B : FVec Ideal ⟨2, ![6144, 768]⟩ .bf16) (R n : Fin 768) :
    @Eq EReal (Host.dotGeneral Cert.ReferenceIdeal.dot_S768x6144_S6144x768_S768x768_1_0_0_1_n_n none
        (extf .f32 A Cert.ReferenceIdeal.Facts₀.bitsLt_bf16_f32) (extf .f32 B Cert.ReferenceIdeal.Facts₀.bitsLt_bf16_f32) (ix2 R n))
      (∑ k : Fin 6144, (A (ix2 R k) : EReal) * B (ix2 k n)) :=
  StackMember.dotGeneral_plain_apply (m := 768) (k := 6144) (n := 768) none (extf .f32 A Cert.ReferenceIdeal.Facts₀.bitsLt_bf16_f32) (extf .f32 B Cert.ReferenceIdeal.Facts₀.bitsLt_bf16_f32) R n

/-- The kernel over the extended reals computes the one device's product: each device ends with its block of rows of it. -/
theorem algebraic_kernel : Cert.algebraic_KernelIdeal_ReferenceIdeal := fun m ρ m' ρ' _ hargs => by
  have hA := fun c => (hargs c).1
  have hB := fun c => (hargs c).2
  refine ⟨_, ?_, (θ_run Cert.ReferenceIdeal.defs _ _).mono (fun _ h => h 0) (Cert.ReferenceIdeal.Value.run (F := Ideal) m' ρ')⟩
  refine (θ_run Cert.KernelIdeal.defs _ _).mono (fun _ h c =>
    ⟨(h.1 c (2 : Fin 3)).trans ?_, (h.1 c (0 : Fin 3)).trans (Cert.TwoPhase.finalA_a m ρ c), (h.1 c (1 : Fin 3)).trans (Cert.TwoPhase.finalA_b m ρ c)⟩)
    (Cert.TwoPhase.run_main (F := Ideal) m ρ)
  rw [Cert.TwoPhase.finalA_res]
  funext i
  have hr : (i (0 : Fin 2)).val < 48 := (i (0 : Fin 2)).isLt
  have hc : c.val < 16 := c.isLt
  have hi : Layout.Tiles.idx (S := ⟨2, ![48, 768]⟩) (T := ⟨2, ![768, 768]⟩) (a := 0) (k := 16) (by decide) c i
      = ix2 (⟨48 * c.val + (i (0 : Fin 2)).val, by omega⟩ : Fin 768) (i (1 : Fin 2)) := by
    funext a; apply Fin.ext
    match a with
    | ⟨0, _⟩ => show c.val * 48 + (i (0 : Fin 2)).val = 48 * c.val + (i (0 : Fin 2)).val; omega
    | ⟨1, _⟩ => rfl
  rw [Layout.block_apply, hi]
  refine (Cert.TwoPhase.outAt_apply m ρ c i ⟨48 * c.val + (i (0 : Fin 2)).val, by omega⟩ (i (1 : Fin 2)) rfl rfl).trans ?_
  exact (Cert.TwoPhase.sum_prod m _ _ hA hB _ _).trans (reference_apply _ _ _ _).symm

theorem claim : Cert.Claim := ⟨Cert.Kernel.Gen.facts, Cert.KernelIdeal.Gen.facts, Cert.ReferenceIdeal.Gen.facts,
  frame_kernel, frame_kernelIdeal,
  fun m ρ _ => (θ_run Cert.ReferenceIdeal.defs _ _).mono (fun _ h => ⟨fun c => (h c).2, sem_eq_zero_of_no_sems (by decide) _⟩)
    (Cert.ReferenceIdeal.Value.run (F := Ideal) m ρ),
  trivial, algebraic_kernel⟩

end Cert.Proof

end
